-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S2x2048x1024 : Shape := ⟨3, ![2, 2048, 1024]⟩
abbrev S8 : Shape := ⟨1, ![8]⟩
abbrev S3 : Shape := ⟨1, ![3]⟩
abbrev S2 : Shape := ⟨1, ![2]⟩
abbrev S_ : Shape := ⟨0, ![]⟩
abbrev S1 : Shape := ⟨1, ![1]⟩
abbrev S512x1024 : Shape := ⟨2, ![512, 1024]⟩
abbrev S1x2048x1024 : Shape := ⟨3, ![1, 2048, 1024]⟩
abbrev S2048x1024 : Shape := ⟨2, ![2048, 1024]⟩
abbrev S256x1024 : Shape := ⟨2, ![256, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S2x2048x1024, .f32⟩
  | _, _ => ⟨S16384x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_19 : BitVec 32 := 4#32
  let v35 : BitVec 32 := Scalar.muli v9 c4_i32_19
  let v36 : BitVec 32 := Scalar.addi c0_i32 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v37 : BitVec 32 := Scalar.muli v5 c2_i32_20
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v39 : BitVec 32 := Scalar.muli v8 c1_i32_21
  let v40 : BitVec 32 := Scalar.addi v38 v39
  v40.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v41 : BitVec 32 := Scalar.muli v2 c4_i32_23
  let v42 : BitVec 32 := Scalar.addi c0_i32_24 v41
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v43 : BitVec 32 := Scalar.muli v10 c2_i32_25
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v45 : BitVec 32 := Scalar.muli v8 c1_i32_26
  let v46 : BitVec 32 := Scalar.addi v44 v45
  v46.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v47 : BitVec 32 := Scalar.muli v2 c4_i32_28
  let v48 : BitVec 32 := Scalar.addi c0_i32_29 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v49 : BitVec 32 := Scalar.muli v5 c2_i32_30
  let v50 : BitVec 32 := Scalar.addi v48 v49
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_31 : BitVec 32 := 1#32
  let v51 : BitVec 32 := Scalar.muli v11 c1_i32_31
  let v52 : BitVec 32 := Scalar.addi v50 v51
  v52.toNat
def k0_off1 (d0 : Dev nD) (c0_i32_32 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32_33 : BitVec 32 := 16384#32
  let v55 : BitVec 32 := Scalar.muli v2 c16384_i32_33
  let c1_i32_6 : BitVec 32 := 1#32
  let v12 : BitVec 32 := Scalar.subi c1_i32_6 v2
  let c16384_i32 : BitVec 32 := 16384#32
  let v13 : BitVec 32 := Scalar.muli v12 c16384_i32
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c4096_i32 : BitVec 32 := 4096#32
  let v16 : BitVec 32 := Scalar.muli v15 c4096_i32
  let v17 : BitVec 32 := Scalar.addi v13 v16
  let v53 : BitVec 32 := Scalar.subi v17 v13
  let v54 : BitVec 32 := Scalar.addi v53 c0_i32_32
  let v56 : BitVec 32 := Scalar.addi v55 v54
  let c0_i32_40 : BitVec 32 := 0#32
  ![v56.toNat, 0]
def k0_off2 (d0 : Dev nD) (c0_i32_32 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c4096_i32 : BitVec 32 := 4096#32
  let v16 : BitVec 32 := Scalar.muli v15 c4096_i32
  let v17 : BitVec 32 := Scalar.addi v13 v16
  let v53 : BitVec 32 := Scalar.subi v17 v13
  let v54 : BitVec 32 := Scalar.addi v53 c0_i32_32
  let c0_i32_41 : BitVec 32 := 0#32
  ![v54.toNat, 0]
def k0_dev4 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v57 : BitVec 32 := Scalar.muli v9 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v61 : BitVec 32 := Scalar.muli v8 c1_i32_39
  let v62 : BitVec 32 := Scalar.addi v60 v61
  v62.toNat
def k0_dev5 (d0 : Dev nD) : Nat :=
  let c0_i32_46 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_45 : BitVec 32 := 4#32
  let v73 : BitVec 32 := Scalar.muli v9 c4_i32_45
  let v74 : BitVec 32 := Scalar.addi c0_i32_46 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v75 : BitVec 32 := Scalar.muli v5 c2_i32_47
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v77 : BitVec 32 := Scalar.muli v8 c1_i32_48
  let v78 : BitVec 32 := Scalar.addi v76 v77
  v78.toNat
def k0_dev6 (d0 : Dev nD) : Nat :=
  let c0_i32_55 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_54 : BitVec 32 := 4#32
  let v89 : BitVec 32 := Scalar.muli v9 c4_i32_54
  let v90 : BitVec 32 := Scalar.addi c0_i32_55 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v91 : BitVec 32 := Scalar.muli v5 c2_i32_56
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v93 : BitVec 32 := Scalar.muli v8 c1_i32_57
  let v94 : BitVec 32 := Scalar.addi v92 v93
  v94.toNat
def k0_dev7 (d0 : Dev nD) : Nat :=
  let c0_i32_64 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_63 : BitVec 32 := 4#32
  let v105 : BitVec 32 := Scalar.muli v9 c4_i32_63
  let v106 : BitVec 32 := Scalar.addi c0_i32_64 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v107 : BitVec 32 := Scalar.muli v5 c2_i32_65
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v109 : BitVec 32 := Scalar.muli v8 c1_i32_66
  let v110 : BitVec 32 := Scalar.addi v108 v109
  v110.toNat
def k0_dev8 (d0 : Dev nD) : Nat :=
  let c0_i32_73 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_72 : BitVec 32 := 4#32
  let v121 : BitVec 32 := Scalar.muli v9 c4_i32_72
  let v122 : BitVec 32 := Scalar.addi c0_i32_73 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v123 : BitVec 32 := Scalar.muli v5 c2_i32_74
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v125 : BitVec 32 := Scalar.muli v8 c1_i32_75
  let v126 : BitVec 32 := Scalar.addi v124 v125
  v126.toNat
def k0_dev9 (d0 : Dev nD) : Nat :=
  let c0_i32_81 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_80 : BitVec 32 := 4#32
  let v137 : BitVec 32 := Scalar.muli v9 c4_i32_80
  let v138 : BitVec 32 := Scalar.addi c0_i32_81 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v139 : BitVec 32 := Scalar.muli v5 c2_i32_82
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v141 : BitVec 32 := Scalar.muli v8 c1_i32_83
  let v142 : BitVec 32 := Scalar.addi v140 v141
  v142.toNat
def k0_dev10 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v153 : BitVec 32 := Scalar.muli v9 c4_i32_88
  let v154 : BitVec 32 := Scalar.addi c0_i32_89 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v155 : BitVec 32 := Scalar.muli v5 c2_i32_90
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v157 : BitVec 32 := Scalar.muli v8 c1_i32_91
  let v158 : BitVec 32 := Scalar.addi v156 v157
  v158.toNat
def k0_dev11 (d0 : Dev nD) : Nat :=
  let c0_i32_97 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_96 : BitVec 32 := 4#32
  let v169 : BitVec 32 := Scalar.muli v9 c4_i32_96
  let v170 : BitVec 32 := Scalar.addi c0_i32_97 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v171 : BitVec 32 := Scalar.muli v5 c2_i32_98
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v173 : BitVec 32 := Scalar.muli v8 c1_i32_99
  let v174 : BitVec 32 := Scalar.addi v172 v173
  v174.toNat
def k0_off3 (d0 : Dev nD) (c0_i32_102 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32_103 : BitVec 32 := 16384#32
  let v183 : BitVec 32 := Scalar.muli v2 c16384_i32_103
  let c1_i32_6 : BitVec 32 := 1#32
  let v12 : BitVec 32 := Scalar.subi c1_i32_6 v2
  let c16384_i32 : BitVec 32 := 16384#32
  let v13 : BitVec 32 := Scalar.muli v12 c16384_i32
  let c2_i32_15 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let v29 : BitVec 32 := Scalar.muli c2_i32_15 v28
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_16 v8
  let v31 : BitVec 32 := Scalar.addi v29 v30
  let c4096_i32_17 : BitVec 32 := 4096#32
  let v32 : BitVec 32 := Scalar.muli v31 c4096_i32_17
  let v33 : BitVec 32 := Scalar.addi v13 v32
  let v181 : BitVec 32 := Scalar.subi v33 v13
  let v182 : BitVec 32 := Scalar.addi v181 c0_i32_102
  let v184 : BitVec 32 := Scalar.addi v183 v182
  let c0_i32_110 : BitVec 32 := 0#32
  ![v184.toNat, 0]
def k0_off4 (d0 : Dev nD) (c0_i32_102 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_15 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let v29 : BitVec 32 := Scalar.muli c2_i32_15 v28
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_16 v8
  let v31 : BitVec 32 := Scalar.addi v29 v30
  let c4096_i32_17 : BitVec 32 := 4096#32
  let v32 : BitVec 32 := Scalar.muli v31 c4096_i32_17
  let v33 : BitVec 32 := Scalar.addi v13 v32
  let v181 : BitVec 32 := Scalar.subi v33 v13
  let v182 : BitVec 32 := Scalar.addi v181 c0_i32_102
  let c0_i32_111 : BitVec 32 := 0#32
  ![v182.toNat, 0]
def k0_dev12 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v185 : BitVec 32 := Scalar.muli v9 c4_i32_106
  let v186 : BitVec 32 := Scalar.addi c0_i32_107 v185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v187 : BitVec 32 := Scalar.muli v5 c2_i32_108
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v189 : BitVec 32 := Scalar.muli v8 c1_i32_109
  let v190 : BitVec 32 := Scalar.addi v188 v189
  v190.toNat
def k0_dev13 (d0 : Dev nD) : Nat :=
  let c0_i32_117 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_116 : BitVec 32 := 4#32
  let v201 : BitVec 32 := Scalar.muli v9 c4_i32_116
  let v202 : BitVec 32 := Scalar.addi c0_i32_117 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v203 : BitVec 32 := Scalar.muli v5 c2_i32_118
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v205 : BitVec 32 := Scalar.muli v8 c1_i32_119
  let v206 : BitVec 32 := Scalar.addi v204 v205
  v206.toNat
def k0_dev14 (d0 : Dev nD) : Nat :=
  let c0_i32_127 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_126 : BitVec 32 := 4#32
  let v217 : BitVec 32 := Scalar.muli v9 c4_i32_126
  let v218 : BitVec 32 := Scalar.addi c0_i32_127 v217
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v219 : BitVec 32 := Scalar.muli v5 c2_i32_128
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v221 : BitVec 32 := Scalar.muli v8 c1_i32_129
  let v222 : BitVec 32 := Scalar.addi v220 v221
  v222.toNat
def k0_off5 (d0 : Dev nD) (c0_i32_132 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c4096_i32 : BitVec 32 := 4096#32
  let v16 : BitVec 32 := Scalar.muli v15 c4096_i32
  let v17 : BitVec 32 := Scalar.addi v13 v16
  let v229 : BitVec 32 := Scalar.addi v17 c0_i32_132
  let c0_i32_139 : BitVec 32 := 0#32
  ![v229.toNat, 0]
def k0_dev15 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v241 : BitVec 32 := Scalar.muli v2 c4_i32_145
  let v242 : BitVec 32 := Scalar.addi c0_i32_146 v241
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_147 : BitVec 32 := 2#32
  let v243 : BitVec 32 := Scalar.muli v10 c2_i32_147
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v245 : BitVec 32 := Scalar.muli v8 c1_i32_148
  let v246 : BitVec 32 := Scalar.addi v244 v245
  v246.toNat
def k0_dev16 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v254 : BitVec 32 := Scalar.muli v2 c4_i32_154
  let v255 : BitVec 32 := Scalar.addi c0_i32_155 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v256 : BitVec 32 := Scalar.muli v5 c2_i32_156
  let v257 : BitVec 32 := Scalar.addi v255 v256
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_157 : BitVec 32 := 1#32
  let v258 : BitVec 32 := Scalar.muli v11 c1_i32_157
  let v259 : BitVec 32 := Scalar.addi v257 v258
  v259.toNat
def k0_off6 (d0 : Dev nD) (c0_i32_173 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32_172 : BitVec 32 := 16384#32
  let v276 : BitVec 32 := Scalar.muli v2 c16384_i32_172
  let v277 : BitVec 32 := Scalar.addi v276 c0_i32_173
  let c0_i32_176 : BitVec 32 := 0#32
  ![v277.toNat, 0]
def k0_dev17 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v295 : BitVec 32 := Scalar.muli v2 c4_i32_192
  let v296 : BitVec 32 := Scalar.addi c0_i32_193 v295
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_194 : BitVec 32 := 2#32
  let v297 : BitVec 32 := Scalar.muli v10 c2_i32_194
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v299 : BitVec 32 := Scalar.muli v8 c1_i32_195
  let v300 : BitVec 32 := Scalar.addi v298 v299
  v300.toNat
def k0_dev18 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v308 : BitVec 32 := Scalar.muli v2 c4_i32_201
  let v309 : BitVec 32 := Scalar.addi c0_i32_202 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v310 : BitVec 32 := Scalar.muli v5 c2_i32_203
  let v311 : BitVec 32 := Scalar.addi v309 v310
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_204 : BitVec 32 := 1#32
  let v312 : BitVec 32 := Scalar.muli v11 c1_i32_204
  let v313 : BitVec 32 := Scalar.addi v311 v312
  v313.toNat
def k0_dev19 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v349 : BitVec 32 := Scalar.muli v2 c4_i32_239
  let v350 : BitVec 32 := Scalar.addi c0_i32_240 v349
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_241 : BitVec 32 := 2#32
  let v351 : BitVec 32 := Scalar.muli v10 c2_i32_241
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v353 : BitVec 32 := Scalar.muli v8 c1_i32_242
  let v354 : BitVec 32 := Scalar.addi v352 v353
  v354.toNat
def k0_dev20 (d0 : Dev nD) : Nat :=
  let c0_i32_249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_248 : BitVec 32 := 4#32
  let v362 : BitVec 32 := Scalar.muli v2 c4_i32_248
  let v363 : BitVec 32 := Scalar.addi c0_i32_249 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_250 : BitVec 32 := 2#32
  let v364 : BitVec 32 := Scalar.muli v5 c2_i32_250
  let v365 : BitVec 32 := Scalar.addi v363 v364
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_251 : BitVec 32 := 1#32
  let v366 : BitVec 32 := Scalar.muli v11 c1_i32_251
  let v367 : BitVec 32 := Scalar.addi v365 v366
  v367.toNat
def k0_dev21 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v408 : BitVec 32 := Scalar.muli v2 c4_i32_291
  let v409 : BitVec 32 := Scalar.addi c0_i32_292 v408
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_293 : BitVec 32 := 2#32
  let v410 : BitVec 32 := Scalar.muli v10 c2_i32_293
  let v411 : BitVec 32 := Scalar.addi v409 v410
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v412 : BitVec 32 := Scalar.muli v8 c1_i32_294
  let v413 : BitVec 32 := Scalar.addi v411 v412
  v413.toNat
def k0_dev22 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v421 : BitVec 32 := Scalar.muli v2 c4_i32_300
  let v422 : BitVec 32 := Scalar.addi c0_i32_301 v421
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v423 : BitVec 32 := Scalar.muli v5 c2_i32_302
  let v424 : BitVec 32 := Scalar.addi v422 v423
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_303 : BitVec 32 := 1#32
  let v425 : BitVec 32 := Scalar.muli v11 c1_i32_303
  let v426 : BitVec 32 := Scalar.addi v424 v425
  v426.toNat
def k0_dev23 (d0 : Dev nD) : Nat :=
  let c0_i32_343 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_342 : BitVec 32 := 4#32
  let v467 : BitVec 32 := Scalar.muli v2 c4_i32_342
  let v468 : BitVec 32 := Scalar.addi c0_i32_343 v467
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_344 : BitVec 32 := 2#32
  let v469 : BitVec 32 := Scalar.muli v10 c2_i32_344
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_345 : BitVec 32 := 1#32
  let v471 : BitVec 32 := Scalar.muli v8 c1_i32_345
  let v472 : BitVec 32 := Scalar.addi v470 v471
  v472.toNat
def k0_dev24 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v480 : BitVec 32 := Scalar.muli v2 c4_i32_351
  let v481 : BitVec 32 := Scalar.addi c0_i32_352 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v482 : BitVec 32 := Scalar.muli v5 c2_i32_353
  let v483 : BitVec 32 := Scalar.addi v481 v482
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_354 : BitVec 32 := 1#32
  let v484 : BitVec 32 := Scalar.muli v11 c1_i32_354
  let v485 : BitVec 32 := Scalar.addi v483 v484
  v485.toNat
def k0_dev25 (d0 : Dev nD) : Nat :=
  let c0_i32_394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_393 : BitVec 32 := 4#32
  let v526 : BitVec 32 := Scalar.muli v2 c4_i32_393
  let v527 : BitVec 32 := Scalar.addi c0_i32_394 v526
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_395 : BitVec 32 := 2#32
  let v528 : BitVec 32 := Scalar.muli v10 c2_i32_395
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_396 : BitVec 32 := 1#32
  let v530 : BitVec 32 := Scalar.muli v8 c1_i32_396
  let v531 : BitVec 32 := Scalar.addi v529 v530
  v531.toNat
def k0_dev26 (d0 : Dev nD) : Nat :=
  let c0_i32_403 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_402 : BitVec 32 := 4#32
  let v539 : BitVec 32 := Scalar.muli v2 c4_i32_402
  let v540 : BitVec 32 := Scalar.addi c0_i32_403 v539
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_404 : BitVec 32 := 2#32
  let v541 : BitVec 32 := Scalar.muli v5 c2_i32_404
  let v542 : BitVec 32 := Scalar.addi v540 v541
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_405 : BitVec 32 := 1#32
  let v543 : BitVec 32 := Scalar.muli v11 c1_i32_405
  let v544 : BitVec 32 := Scalar.addi v542 v543
  v544.toNat
def k0_dev27 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v585 : BitVec 32 := Scalar.muli v2 c4_i32_444
  let v586 : BitVec 32 := Scalar.addi c0_i32_445 v585
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_446 : BitVec 32 := 2#32
  let v587 : BitVec 32 := Scalar.muli v10 c2_i32_446
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_447 : BitVec 32 := 1#32
  let v589 : BitVec 32 := Scalar.muli v8 c1_i32_447
  let v590 : BitVec 32 := Scalar.addi v588 v589
  v590.toNat
def k0_dev28 (d0 : Dev nD) : Nat :=
  let c0_i32_454 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_453 : BitVec 32 := 4#32
  let v598 : BitVec 32 := Scalar.muli v2 c4_i32_453
  let v599 : BitVec 32 := Scalar.addi c0_i32_454 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_455 : BitVec 32 := 2#32
  let v600 : BitVec 32 := Scalar.muli v5 c2_i32_455
  let v601 : BitVec 32 := Scalar.addi v599 v600
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_456 : BitVec 32 := 1#32
  let v602 : BitVec 32 := Scalar.muli v11 c1_i32_456
  let v603 : BitVec 32 := Scalar.addi v601 v602
  v603.toNat
def k0_dev29 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v644 : BitVec 32 := Scalar.muli v2 c4_i32_495
  let v645 : BitVec 32 := Scalar.addi c0_i32_496 v644
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_497 : BitVec 32 := 2#32
  let v646 : BitVec 32 := Scalar.muli v10 c2_i32_497
  let v647 : BitVec 32 := Scalar.addi v645 v646
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_498 : BitVec 32 := 1#32
  let v648 : BitVec 32 := Scalar.muli v8 c1_i32_498
  let v649 : BitVec 32 := Scalar.addi v647 v648
  v649.toNat
def k0_dev30 (d0 : Dev nD) : Nat :=
  let c0_i32_505 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_504 : BitVec 32 := 4#32
  let v657 : BitVec 32 := Scalar.muli v2 c4_i32_504
  let v658 : BitVec 32 := Scalar.addi c0_i32_505 v657
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_506 : BitVec 32 := 2#32
  let v659 : BitVec 32 := Scalar.muli v5 c2_i32_506
  let v660 : BitVec 32 := Scalar.addi v658 v659
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_507 : BitVec 32 := 1#32
  let v661 : BitVec 32 := Scalar.muli v11 c1_i32_507
  let v662 : BitVec 32 := Scalar.addi v660 v661
  v662.toNat
def k0_off7 (d0 : Dev nD) (c0_i32_533 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v25 : BitVec 32 := Scalar.addi v23 v24
  let c4096_i32_13 : BitVec 32 := 4096#32
  let v26 : BitVec 32 := Scalar.muli v25 c4096_i32_13
  let v27 : BitVec 32 := Scalar.addi v13 v26
  let v691 : BitVec 32 := Scalar.addi v27 c0_i32_533
  let c0_i32_540 : BitVec 32 := 0#32
  ![v691.toNat, 0]
def k0_dev31 (d0 : Dev nD) : Nat :=
  let c0_i32_577 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_576 : BitVec 32 := 4#32
  let v736 : BitVec 32 := Scalar.muli v2 c4_i32_576
  let v737 : BitVec 32 := Scalar.addi c0_i32_577 v736
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_578 : BitVec 32 := 2#32
  let v738 : BitVec 32 := Scalar.muli v10 c2_i32_578
  let v739 : BitVec 32 := Scalar.addi v737 v738
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_579 : BitVec 32 := 1#32
  let v740 : BitVec 32 := Scalar.muli v8 c1_i32_579
  let v741 : BitVec 32 := Scalar.addi v739 v740
  v741.toNat
def k0_dev32 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v760 : BitVec 32 := Scalar.muli v2 c4_i32_595
  let v761 : BitVec 32 := Scalar.addi c0_i32_596 v760
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_597 : BitVec 32 := 2#32
  let v762 : BitVec 32 := Scalar.muli v10 c2_i32_597
  let v763 : BitVec 32 := Scalar.addi v761 v762
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_598 : BitVec 32 := 1#32
  let v764 : BitVec 32 := Scalar.muli v8 c1_i32_598
  let v765 : BitVec 32 := Scalar.addi v763 v764
  v765.toNat
def k0_off8 (d0 : Dev nD) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v25 : BitVec 32 := Scalar.addi v23 v24
  let c4096_i32_13 : BitVec 32 := 4096#32
  let v26 : BitVec 32 := Scalar.muli v25 c4096_i32_13
  let v27 : BitVec 32 := Scalar.addi v13 v26
  let c2560_i32_611 : BitVec 32 := 2560#32
  let v783 : BitVec 32 := Scalar.addi v27 c2560_i32_611
  let c0_i32_618 : BitVec 32 := 0#32
  ![v783.toNat, 0]
def k0_dev33 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_614 : BitVec 32 := 4#32
  let v784 : BitVec 32 := Scalar.muli v2 c4_i32_614
  let v785 : BitVec 32 := Scalar.addi c0_i32_615 v784
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_616 : BitVec 32 := 2#32
  let v786 : BitVec 32 := Scalar.muli v10 c2_i32_616
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_617 : BitVec 32 := 1#32
  let v788 : BitVec 32 := Scalar.muli v8 c1_i32_617
  let v789 : BitVec 32 := Scalar.addi v787 v788
  v789.toNat
def k0_off9 (d0 : Dev nD) (c0_i32_620 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v19 : BitVec 32 := Scalar.muli c2_i32_9 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.addi v19 v8
  let c4096_i32_10 : BitVec 32 := 4096#32
  let v21 : BitVec 32 := Scalar.muli v20 c4096_i32_10
  let v22 : BitVec 32 := Scalar.addi v13 v21
  let v796 : BitVec 32 := Scalar.addi v22 c0_i32_620
  let c0_i32_627 : BitVec 32 := 0#32
  ![v796.toNat, 0]
def k0_off10 (d0 : Dev nD) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v19 : BitVec 32 := Scalar.muli c2_i32_9 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.addi v19 v8
  let c4096_i32_10 : BitVec 32 := 4096#32
  let v21 : BitVec 32 := Scalar.muli v20 c4096_i32_10
  let v22 : BitVec 32 := Scalar.addi v13 v21
  let c2816_i32 : BitVec 32 := 2816#32
  let v862 : BitVec 32 := Scalar.addi v22 c2816_i32
  let c0_i32_686 : BitVec 32 := 0#32
  ![v862.toNat, 0]
def k0_dev34 (d0 : Dev nD) : Nat :=
  let c0_i32_683 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_682 : BitVec 32 := 4#32
  let v863 : BitVec 32 := Scalar.muli v2 c4_i32_682
  let v864 : BitVec 32 := Scalar.addi c0_i32_683 v863
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_684 : BitVec 32 := 2#32
  let v865 : BitVec 32 := Scalar.muli v5 c2_i32_684
  let v866 : BitVec 32 := Scalar.addi v864 v865
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_685 : BitVec 32 := 1#32
  let v867 : BitVec 32 := Scalar.muli v11 c1_i32_685
  let v868 : BitVec 32 := Scalar.addi v866 v867
  v868.toNat
def k0_dev35 (d0 : Dev nD) : Nat :=
  let c0_i32_702 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_701 : BitVec 32 := 4#32
  let v887 : BitVec 32 := Scalar.muli v2 c4_i32_701
  let v888 : BitVec 32 := Scalar.addi c0_i32_702 v887
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_703 : BitVec 32 := 2#32
  let v889 : BitVec 32 := Scalar.muli v5 c2_i32_703
  let v890 : BitVec 32 := Scalar.addi v888 v889
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_704 : BitVec 32 := 1#32
  let v891 : BitVec 32 := Scalar.muli v11 c1_i32_704
  let v892 : BitVec 32 := Scalar.addi v890 v891
  v892.toNat
def k0_dev36 (d0 : Dev nD) : Nat :=
  let c0_i32_721 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_720 : BitVec 32 := 4#32
  let v911 : BitVec 32 := Scalar.muli v2 c4_i32_720
  let v912 : BitVec 32 := Scalar.addi c0_i32_721 v911
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_722 : BitVec 32 := 2#32
  let v913 : BitVec 32 := Scalar.muli v5 c2_i32_722
  let v914 : BitVec 32 := Scalar.addi v912 v913
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_723 : BitVec 32 := 1#32
  let v915 : BitVec 32 := Scalar.muli v11 c1_i32_723
  let v916 : BitVec 32 := Scalar.addi v914 v915
  v916.toNat
def k0_off11 (d0 : Dev nD) (c0_i32_746 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_15 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let v29 : BitVec 32 := Scalar.muli c2_i32_15 v28
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_16 v8
  let v31 : BitVec 32 := Scalar.addi v29 v30
  let c4096_i32_17 : BitVec 32 := 4096#32
  let v32 : BitVec 32 := Scalar.muli v31 c4096_i32_17
  let v33 : BitVec 32 := Scalar.addi v13 v32
  let v945 : BitVec 32 := Scalar.addi v33 c0_i32_746
  let c0_i32_753 : BitVec 32 := 0#32
  ![v945.toNat, 0]
def k0_off11_at (r : Fin 7) : BitVec 32 :=
  if r.val < 3 then
    if r.val < 1 then
      0#32
    else
      if r.val < 2 then
        512#32
      else
        1024#32
  else
    if r.val < 5 then
      if r.val < 4 then
        1536#32
      else
        2048#32
    else
      if r.val < 6 then
        3072#32
      else
        3584#32
def k0_off12 (d0 : Dev nD) (c2560_i32_796 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c16384_i32 : BitVec 32 := 16384#32
  let v13 : BitVec 32 := Scalar.muli v12 c16384_i32
  let c2_i32_15 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let v29 : BitVec 32 := Scalar.muli c2_i32_15 v28
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_16 v8
  let v31 : BitVec 32 := Scalar.addi v29 v30
  let c4096_i32_17 : BitVec 32 := 4096#32
  let v32 : BitVec 32 := Scalar.muli v31 c4096_i32_17
  let v33 : BitVec 32 := Scalar.addi v13 v32
  let v1000 : BitVec 32 := Scalar.addi v33 c2560_i32_796
  let c0_i32_803 : BitVec 32 := 0#32
  ![v1000.toNat, 0]
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/-
The gather's plan: its thirty-three remote transfers by name, the views, devices and semaphores of each, and the
kernel's whole text as one list of named operations.

Device `(x, y, z)` holds half `x` of the array. It receives the other half in four quarters: its own (`d`, over the
x axis, eight chunks of 512 rows), its y neighbour's (`a`), its z neighbour's (`b`), and the diagonal one (`g`: the
first three chunks over x, the next 1280 rows out of its y neighbour's `b`, the last 1280 out of its z neighbour's `a`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Mathlib.Tactic.DeriveFintype

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-! ## The transfers by name -/

/-- A remote transfer a device starts: a chunk of its own quarter over x (`x`), a chunk of the diagonal quarter over x
    (`gx`), a received chunk passed on over y or z (`yd`, `zd`), a piece of its `b` quarter passed on over y (`y2`), a piece of
    its `a` quarter passed on over z (`z2`). -/
inductive Tr
  | x (i : Fin 8) | gx (i : Fin 3) | yd (i : Fin 8) | zd (i : Fin 8) | y2 (i : Fin 3) | z2 (i : Fin 3)
deriving DecidableEq, Fintype

/-- How many rows it moves. -/
def len : Tr → ℕ
  | .y2 i => if i.val = 2 then 256 else 512
  | .z2 i => if i.val = 0 then 256 else 512
  | _ => 512

/-- The axis it crosses: 0 for x, 1 for y, 2 for z. -/
def dir : Tr → Fin 3
  | .x _ => 0 | .gx _ => 0 | .yd _ => 1 | .zd _ => 2 | .y2 _ => 1 | .z2 _ => 2

/-- The neighbour of device `c` over an axis. -/
def flip (k : Fin 3) (c : Dev nD) : Dev nD :=
  match k with
  | 0 => ⟨(c.val + 4) % 8, Nat.mod_lt _ (by decide)⟩
  | 1 => ⟨c.val / 4 * 4 + (c.val + 2) % 4, by have : c.val < 8 := c.isLt; show _ < 8; omega⟩
  | 2 => ⟨c.val / 2 * 2 + (c.val + 1) % 2, by have : c.val < 8 := c.isLt; show _ < 8; omega⟩

/-- The neighbour a transfer goes to. -/
abbrev nbr (t : Tr) (c : Dev nD) : Dev nD := flip (dir t) c

/-- Crossing an axis twice comes back. -/
theorem flip_flip (k : Fin 3) (c : Dev nD) : flip k (flip k c) = c := by revert k c; decide +kernel

/-! ## Devices, rows and semaphores as the program computes them -/

/-- The device word of a signal over each axis. -/
def sdev (k : Fin 3) (c : Dev nD) : Dev nD :=
  match k with
  | 0 => ⟨k0_dev1 c, k0_dev1_lt c⟩
  | 1 => ⟨k0_dev2 c, k0_dev2_lt c⟩
  | 2 => ⟨k0_dev3 c, k0_dev3_lt c⟩

/-- The device word of a transfer over each axis. -/
def tdev (k : Fin 3) (c : Dev nD) : Dev nD :=
  match k with
  | 0 => ⟨k0_dev4 c, k0_dev4_lt c⟩
  | 1 => ⟨k0_dev15 c, k0_dev15_lt c⟩
  | 2 => ⟨k0_dev16 c, k0_dev16_lt c⟩

/-- A signal goes to the neighbour over its axis, -/
theorem sdev_eq (k : Fin 3) (c : Dev nD) : sdev k c = flip k c := by revert k c; decide +kernel
/-- and so does a transfer. -/
theorem tdev_eq (k : Fin 3) (c : Dev nD) : tdev k c = flip k c := by revert k c; decide +kernel

/-- Where in the result a transfer of device `c` lands on its neighbour. -/
def dOff (t : Tr) (c : Dev nD) : Fin 2 → Nat :=
  match t with
  | .x i => k0_off1 c (BitVec.ofNat 32 (512 * i.val))
  | .gx i => k0_off3 c (BitVec.ofNat 32 (512 * i.val))
  | .yd i => k0_off5 c (BitVec.ofNat 32 (512 * i.val))
  | .zd i => k0_off5 c (BitVec.ofNat 32 (512 * i.val))
  | .y2 i => if i.val = 2 then k0_off8 c else k0_off7 c (BitVec.ofNat 32 (1536 + 512 * i.val))
  | .z2 i => if i.val = 0 then k0_off10 c else k0_off9 c (BitVec.ofNat 32 (2560 + 512 * i.val))

/-- Where in its result device `c` receives the transfer of that name from its neighbour. -/
def rOff (t : Tr) (c : Dev nD) : Fin 2 → Nat :=
  match t with
  | .x i => k0_off5 c (BitVec.ofNat 32 (512 * i.val))
  | .gx i => k0_off11 c (BitVec.ofNat 32 (512 * i.val))
  | .yd i => k0_off9 c (BitVec.ofNat 32 (512 * i.val))
  | .zd i => k0_off7 c (BitVec.ofNat 32 (512 * i.val))
  | .y2 i => if i.val = 2 then k0_off12 c (BitVec.ofNat 32 2560) else k0_off11 c (BitVec.ofNat 32 (1536 + 512 * i.val))
  | .z2 i => if i.val = 0 then k0_off12 c (BitVec.ofNat 32 2816) else k0_off11 c (BitVec.ofNat 32 (2560 + 512 * i.val))

/-- Where in the argument an x transfer reads. -/
def xOff (t : Tr) (c : Dev nD) : Fin 2 → Nat :=
  match t with
  | .x i => k0_off2 c (BitVec.ofNat 32 (512 * i.val))
  | .gx i => k0_off4 c (BitVec.ofNat 32 (512 * i.val))
  | _ => ![0, 0]

/-- `n` rows of 1024. -/
abbrev Sh (n : ℕ) : Shape := ⟨2, ![n, 1024]⟩

/-- Written and received regions lie in the result, -/
theorem dOff_inb : ∀ (t : Tr) (c : Dev nD) (a : Fin 2), dOff t c a + (Sh (len t)).size a ≤ S32768x1024.size a := by decide +kernel
/-- as do the regions awaited, -/
theorem rOff_inb : ∀ (t : Tr) (c : Dev nD) (a : Fin 2), rOff t c a + (Sh (len t)).size a ≤ S32768x1024.size a := by decide +kernel
/-- the x transfers' rows in the argument, -/
theorem xOff_inb : ∀ (t : Tr) (c : Dev nD) (a : Fin 2), xOff t c a + (Sh (len t)).size a ≤ S16384x1024.size a := by decide +kernel
/-- the first rows of the argument, which a wait names, in it, -/
theorem zOff_inb : ∀ (t : Tr) (a : Fin 2), (![0, 0] : Fin 2 → Nat) a + (Sh (len t)).size a ≤ S16384x1024.size a := by decide +kernel
/-- a local chunk in it, -/
theorem lOff_inb : ∀ (i : Fin 8) (a : Fin 2), (![2048 * i.val, 0] : Fin 2 → Nat) a + S2048x1024.size a ≤ S16384x1024.size a := by decide +kernel
/-- and a half of the buffer in the buffer. -/
theorem sOff_inb : ∀ (s : Fin 2) (a : Fin 3), (![s.val, 0, 0] : Fin 3 → Nat) a + S1x2048x1024.size a ≤ S2x2048x1024.size a := by decide +kernel

/-- The argument, whole; -/
abbrev xM : Memref sig .tc .hbm S16384x1024 .f32 := Memref.whole main_arg0
/-- the result; -/
abbrev oM : Memref sig .tc .hbm S32768x1024 .f32 := Memref.whole main_v1
/-- the buffer. -/
abbrev bM : Memref sig .tc .vmem S2x2048x1024 .f32 := Memref.whole cc0_scratch0

/-- The rows a transfer of device `c` writes on its neighbour. -/
abbrev dV (t : Tr) (c : Dev nD) : Memref sig .tc .hbm (Sh (len t)) .f32 :=
  oM.slice (Rect.unit (s := S32768x1024) (dOff t c) (Sh (len t)).size (dOff_inb t c)) (fun _ => rfl)

/-- The rows it reads: of the argument for the x transfers, of the result (the rows of the same numbers) for the others. -/
def sV (t : Tr) (c : Dev nD) : Memref sig .tc .hbm (Sh (len t)) .f32 :=
  match t with
  | .x i => xM.slice (Rect.unit (s := S16384x1024) (xOff (.x i) c) (Sh (len (.x i))).size (xOff_inb (.x i) c)) (fun _ => rfl)
  | .gx i => xM.slice (Rect.unit (s := S16384x1024) (xOff (.gx i) c) (Sh (len (.gx i))).size (xOff_inb (.gx i) c)) (fun _ => rfl)
  | .yd i => dV (.yd i) c
  | .zd i => dV (.zd i) c
  | .y2 i => dV (.y2 i) c
  | .z2 i => dV (.z2 i) c

/-- The rows in which device `c` receives the transfer of that name. -/
abbrev rV (t : Tr) (c : Dev nD) : Memref sig .tc .hbm (Sh (len t)) .f32 :=
  oM.slice (Rect.unit (s := S32768x1024) (rOff t c) (Sh (len t)).size (rOff_inb t c)) (fun _ => rfl)

/-- The argument's first rows: what a receive wait names as its source. -/
abbrev zV (t : Tr) : Memref sig .tc .hbm (Sh (len t)) .f32 :=
  xM.slice (Rect.unit (s := S16384x1024) ![0, 0] (Sh (len t)).size (zOff_inb t)) (fun _ => rfl)

/-- A local chunk in the argument. -/
abbrev aV (i : Fin 8) : Memref sig .tc .hbm S2048x1024 .f32 :=
  xM.slice (Rect.unit (s := S16384x1024) ![2048 * i.val, 0] S2048x1024.size (lOff_inb i)) (fun _ => rfl)
/-- A half of the buffer. -/
abbrev bV (s : Fin 2) : Memref sig .tc .vmem S2048x1024 .f32 :=
  (bM.slice (Rect.unit (s := S2x2048x1024) ![s.val, 0, 0] S1x2048x1024.size (sOff_inb s)) (fun _ => rfl)).squeeze S2048x1024 squeezes_S1x2048x1024_S2048x1024
/-- The place of a local chunk in the result. -/
abbrev lV (i : Fin 8) (c : Dev nD) : Memref sig .tc .hbm S2048x1024 .f32 :=
  oM.slice (Rect.unit (s := S32768x1024) (k0_off6 c (BitVec.ofNat 32 (2048 * i.val))) S2048x1024.size (k0_off6_inb c i)) (fun _ => rfl)

/-- The buffer half of a local chunk. -/
def half (i : Fin 8) : Fin 2 := ⟨i.val % 2, Nat.mod_lt _ (by decide)⟩

/-- The semaphore a transfer's sending completes on. -/
def ss : Tr → DmaSem sig
  | .x i => ⟨i.val, by have := i.isLt; show _ < 70; omega⟩
  | .gx i => ⟨16 + i.val, by have := i.isLt; show _ < 70; omega⟩
  | .yd i => ⟨22 + i.val, by have := i.isLt; show _ < 70; omega⟩
  | .zd i => ⟨38 + i.val, by have := i.isLt; show _ < 70; omega⟩
  | .y2 i => ⟨54 + i.val, by have := i.isLt; show _ < 70; omega⟩
  | .z2 i => ⟨60 + i.val, by have := i.isLt; show _ < 70; omega⟩

/-- The semaphore its landing completes on. -/
def rs : Tr → DmaSem sig
  | .x i => ⟨8 + i.val, by have := i.isLt; show _ < 70; omega⟩
  | .gx i => ⟨19 + i.val, by have := i.isLt; show _ < 70; omega⟩
  | .yd i => ⟨30 + i.val, by have := i.isLt; show _ < 70; omega⟩
  | .zd i => ⟨46 + i.val, by have := i.isLt; show _ < 70; omega⟩
  | .y2 i => ⟨57 + i.val, by have := i.isLt; show _ < 70; omega⟩
  | .z2 i => ⟨63 + i.val, by have := i.isLt; show _ < 70; omega⟩

/-- The semaphore of the copy into a buffer half. -/
def ls (s : Fin 2) : DmaSem sig := ⟨66 + s.val, by have := s.isLt; show _ < 70; omega⟩
/-- The semaphore of the copy out of a half. -/
def ws (s : Fin 2) : DmaSem sig := ⟨68 + s.val, by have := s.isLt; show _ < 70; omega⟩

/-- The barrier semaphore. -/
abbrev barS : Sem sig := (SemArray.scalar (sig.barrier 0 rfl) : Sems sig S_).sem

/-- What a transfer reads is whole words. -/
theorem sV_wordExact (t : Tr) (c : Dev nD) : (sV t c).view.WordExact := by
  cases t <;> exact View.wordExact_bits rfl

/-! ## The operations -/

/-- A step of the kernel: signal the neighbour over an axis, wait for the three signals, start / await the landing of /
    await the sending of a transfer, copy a chunk into its buffer half and start copying it out, await that. -/
inductive Op
  | sig (k : Fin 3) | bar
  | send (t : Tr) | recv (t : Tr) | sent (t : Tr)
  | move (i : Fin 8) | stored (i : Fin 8)

/-- The text of each step on device `c`. -/
def text (c : Dev nD) : Op → Prog (TpuEff nD τ sig (Elt F) Λ₀ .tc) PUnit
  | .sig k => semSignalWord (sdev k c) barS 1#32
  | .bar => semWaitWord barS 3#32
  | .send t => Prog.lift (.enqueueDma (sV t c) (.remote (Dev.tc (tdev (dir t) c)) (dV t c) (.dma (ss t))) (.dma (rs t))
      (sV_wordExact t c) (View.wordExact_bits rfl) ⟨⟨rfl, Or.inl rfl⟩, trivial⟩)
  | .recv t => Prog.lift (.waitDma2 (rs t) (zV t) (rV t c) (View.wordExact_bits rfl) (View.wordExact_bits rfl))
  | .sent t => Prog.lift (.waitDma2 (ss t) (dV t c) (sV t c) (View.wordExact_bits rfl) (sV_wordExact t c))
  | .move i =>
      (Prog.lift (.enqueueDma (aV i) (.here (bV (half i))) (.dma (ls (half i))) (View.wordExact_bits rfl)
          ((View.wordExact_bits rfl).reshape _ _) ⟨Or.inl rfl, trivial⟩)).bind fun _ =>
      (Prog.lift (.waitDma2 (ls (half i)) (aV i) (bV (half i)) (View.wordExact_bits rfl) ((View.wordExact_bits rfl).reshape _ _))).bind fun _ =>
      Prog.lift (.enqueueDma (bV (half i)) (.here (lV i c)) (.dma (ws (half i))) ((View.wordExact_bits rfl).reshape _ _)
          (View.wordExact_bits rfl) ⟨Or.inl rfl, trivial⟩)
  | .stored i => Prog.lift (.waitDma2 (ws (half i)) (bV (half i)) (lV i c) ((View.wordExact_bits rfl).reshape _ _) (View.wordExact_bits rfl))

/-- A list of steps as a program. -/
def texts (c : Dev nD) : List Op → Prog (TpuEff nD τ sig (Elt F) Λ₀ .tc) PUnit
  | [] => .ret ⟨⟩
  | o :: os => (text c o).bind fun _ => texts c os

/-- The steps about chunk `i` of the device's own quarter: await it, pass it on over y and z, and move local chunk `i`
    through its buffer half, freed first if in use. -/
def round (i : Fin 8) : List Op :=
  [.recv (.x i), .send (.yd i), .send (.zd i)]
    ++ (if 2 ≤ i.val then [.stored (i - 2)] else [])
    ++ [.move i]

/-- The kernel's steps after the handshake, in its order. -/
def steps : List Op :=
  [.send (.x 0), .send (.x 1), .send (.x 2), .send (.x 3), .send (.x 4), .send (.x 5), .send (.x 6), .send (.x 7),
    .send (.gx 0), .send (.gx 1), .send (.gx 2)]
  ++ round 0 ++ round 1 ++ round 2 ++ round 3 ++ round 4 ++ round 5 ++ round 6 ++ round 7
  ++ [.recv (.zd 0), .recv (.zd 1), .recv (.zd 2), .recv (.zd 3), .send (.y2 0), .recv (.zd 4), .send (.y2 1), .recv (.zd 5), .send (.y2 2),
    .recv (.yd 0), .recv (.yd 1), .recv (.yd 2), .recv (.yd 3), .recv (.yd 4), .recv (.yd 5), .send (.z2 0), .recv (.yd 6), .send (.z2 1),
    .recv (.yd 7), .send (.z2 2), .recv (.zd 6), .recv (.zd 7), .recv (.gx 0), .recv (.gx 1), .recv (.gx 2),
    .recv (.y2 0), .recv (.y2 1), .recv (.y2 2), .recv (.z2 0), .recv (.z2 1), .recv (.z2 2),
    .sent (.x 0), .sent (.x 1), .sent (.x 2), .sent (.x 3), .sent (.x 4), .sent (.x 5), .sent (.x 6), .sent (.x 7),
    .sent (.gx 0), .sent (.gx 1), .sent (.gx 2),
    .sent (.yd 0), .sent (.zd 0), .sent (.yd 1), .sent (.zd 1), .sent (.yd 2), .sent (.zd 2), .sent (.yd 3), .sent (.zd 3),
    .sent (.yd 4), .sent (.zd 4), .sent (.yd 5), .sent (.zd 5), .sent (.yd 6), .sent (.zd 6), .sent (.yd 7), .sent (.zd 7),
    .sent (.y2 0), .sent (.y2 1), .sent (.y2 2), .sent (.z2 0), .sent (.z2 1), .sent (.z2 2),
    .stored 6, .stored 7]

/-- The kernel's text is its device's steps: the handshake, then `steps`. -/
theorem body_eq : (bodyAt0 (F := F) t0_0) = .op .deviceId fun c => texts c ([.sig 0, .sig 1, .sig 2, .bar] ++ steps) := by
  rfl

end Cert.Gather

end
-- ==== Proof.Rows.lean ====
/-
Rows and contents: which rows each transfer moves, how the incoming transfers and the local chunks tile a device's
result, which device's argument each row of the result comes from, and that every copy writes exactly those contents.
-/
module

public import proofs.«01_k».proof.Proof.Plan

@[expose] public section

noncomputable section

namespace Cert.Gather

open Cert.KernelIdeal Cert.KernelIdeal.Gen
open Idealize.ShloMosaic Idealize.ShloMosaic.TcCoe

variable {F : FTy → Type} [FloatOps F]

/-! ## Row intervals -/

/-- The indices of the rows `a ≤ r < a + n` of a block of `N` rows. -/
def rows (N a n : ℕ) : Finset (Sh N).Idx := Finset.univ.filter fun i => a ≤ (i 0).val ∧ (i 0).val < a + n

/-- Being one of these rows. -/
theorem mem_rows {N a n : ℕ} {i : (Sh N).Idx} : i ∈ rows N a n ↔ a ≤ (i 0).val ∧ (i 0).val < a + n := by
  unfold rows; rw [Finset.mem_filter]; exact ⟨fun h => h.2, fun h => ⟨Finset.mem_univ _, h⟩⟩

/-- Intervals of rows that do not overlap are disjoint, -/
theorem rows_disjoint {N a n b k : ℕ} (h : a + n ≤ b ∨ b + k ≤ a) : Disjoint (rows N a n) (rows N b k) := by
  rw [Finset.disjoint_left]
  intro i hi hj
  rw [mem_rows] at hi hj
  omega

/-- one within another is a subset, -/
theorem rows_subset {N a n b k : ℕ} (h : b ≤ a ∧ a + n ≤ b + k) : rows N a n ⊆ rows N b k := by
  intro i hi
  rw [mem_rows] at hi ⊢
  omega

/-- and two that meet make one. -/
theorem rows_append {N a n k : ℕ} : rows N a n ∪ rows N (a + n) k = rows N a (n + k) := by
  ext i
  rw [Finset.mem_union, mem_rows, mem_rows, mem_rows]
  omega

/-- The elements of a slice of whole rows. -/
theorem unit_set {N n : ℕ} {off : Fin 2 → ℕ} (h1 : off 1 = 0) (inb : ∀ a, off a + (Sh n).size a ≤ (Sh N).size a) :
    (Rect.unit (s := Sh N) off (Sh n).size inb).set = rows N (off 0) n := by
  ext i
  rw [Rect.mem_set_unit, mem_rows]
  constructor
  · intro h; exact h 0
  · intro h a
    fin_cases a
    · exact h
    · have := (i 1).isLt
      refine ⟨by show off 1 ≤ _; omega, ?_⟩
      show (i 1).val < off 1 + 1024
      rw [h1, Nat.zero_add]; exact this

/-! ## The offsets as numbers -/

/-- The first row a transfer of device `c` writes on its neighbour. -/
def lo (t : Tr) (c : Dev nD) : ℕ := dOff t c 0

/-- The first row of the receive region of that name. -/
def ro (t : Tr) (c : Dev nD) : ℕ := rOff t c 0

/-- Slices take whole rows: those written, -/
theorem dOff_one : ∀ (t : Tr) (c : Dev nD), dOff t c 1 = 0 := by decide +kernel
/-- those received, -/
theorem rOff_one : ∀ (t : Tr) (c : Dev nD), rOff t c 1 = 0 := by decide +kernel
/-- and those read of the argument. -/
theorem xOff_one : ∀ (t : Tr) (c : Dev nD), xOff t c 1 = 0 := by decide +kernel

/-- A device receives a transfer where its neighbour sends it. -/
theorem rOff_nbr : ∀ (t : Tr) (c : Dev nD), rOff t (nbr t c) 0 = dOff t c 0 := by decide +kernel
/-- And a neighbour receives a transfer where the device sends it. -/
theorem dOff_nbr : ∀ (t : Tr) (c : Dev nD), dOff t (nbr t c) 0 = rOff t c 0 := by decide +kernel

/-- The elements a transfer writes, -/
theorem dV_set (t : Tr) (c : Dev nD) : ((dV t c).view.set : Finset S32768x1024.Idx) = rows 32768 (lo t c) (len t) :=
  (View.set_slice_whole _ _).trans (unit_set (dOff_one t c) (dOff_inb t c))

/-- those it is received in, -/
theorem rV_set (t : Tr) (c : Dev nD) : ((rV t c).view.set : Finset S32768x1024.Idx) = rows 32768 (ro t c) (len t) :=
  (View.set_slice_whole _ _).trans (unit_set (rOff_one t c) (rOff_inb t c))

/-- those of a local chunk in the argument, -/
theorem aV_set (i : Fin 8) : ((aV i).view.set : Finset S16384x1024.Idx) = rows 16384 (2048 * i.val) 2048 :=
  (View.set_slice_whole _ _).trans (unit_set (off := ![2048 * i.val, 0]) rfl (lOff_inb i))

/-- whose first row in the result is that of the device's half and of the chunk, -/
theorem lOff_eq (i : Fin 8) (c : Dev nD) : k0_off6 c (BitVec.ofNat 32 (2048 * i.val)) = ![16384 * (c.val / 4) + 2048 * i.val, 0] := k0_off6_eq c i

/-- and its elements there. -/
theorem lV_set (i : Fin 8) (c : Dev nD) : ((lV i c).view.set : Finset S32768x1024.Idx) = rows 32768 (16384 * (c.val / 4) + 2048 * i.val) 2048 := by
  refine (View.set_slice_whole _ _).trans ((unit_set ?_ (k0_off6_inb c i)).trans ?_)
  · rw [lOff_eq]; rfl
  · rw [lOff_eq]; rfl

/-! ## The tiling -/

/-- A tile of a device's result: an incoming transfer's rows or a local chunk's. -/
abbrev Tile : Type := Tr ⊕ Fin 8

/-- First row and number of rows of a tile. -/
def tile (c : Dev nD) : Tile → ℕ × ℕ
  | .inl t => (ro t c, len t)
  | .inr i => (16384 * (c.val / 4) + 2048 * i.val, 2048)

/-- A number that orders a device's incoming transfers by their rows, for computing with. -/
def rn : Tr → ℕ → ℕ
  | .x i, c => 16384 * (1 - c / 4) + 4096 * (c % 4) + 512 * i.val
  | .gx i, c => 16384 * (1 - c / 4) + 4096 * (3 - c % 4) + 512 * i.val
  | .yd i, c => 16384 * (1 - c / 4) + 4096 * ((c + 2) % 4) + 512 * i.val
  | .zd i, c => 16384 * (1 - c / 4) + 4096 * (c / 2 % 2 * 2 + (c + 1) % 2) + 512 * i.val
  | .y2 i, c => 16384 * (1 - c / 4) + 4096 * (3 - c % 4) + 1536 + 512 * i.val
  | .z2 i, c => 16384 * (1 - c / 4) + 4096 * (3 - c % 4) + if i.val = 0 then 2816 else 2560 + 512 * i.val

/-- That number is the first row received. -/
theorem ro_eq : ∀ (t : Tr) (c : Dev nD), ro t c = rn t c.val := by decide +kernel

/-- A tile in numbers, -/
def tileN (c : ℕ) : Tile → ℕ × ℕ
  | .inl t => (rn t c, len t)
  | .inr i => (16384 * (c / 4) + 2048 * i.val, 2048)

/-- which is the tile. -/
theorem tile_eq (c : Dev nD) (p : Tile) : tile c p = tileN c.val p := by
  cases p with
  | inl t => exact Prod.ext (ro_eq t c) rfl
  | inr i => rfl

/-- Two tiles of a device do not overlap, -/
theorem tiles_apart_N : ∀ (c : Fin 8) (p q : Tile), p ≠ q →
    (tileN c.val p).1 + (tileN c.val p).2 ≤ (tileN c.val q).1 ∨ (tileN c.val q).1 + (tileN c.val q).2 ≤ (tileN c.val p).1 := by decide +kernel

/-- and every block of 256 rows lies in one. -/
theorem tiles_cover_N : ∀ (c : Fin 8) (b : Fin 128), ∃ p : Tile, (tileN c.val p).1 ≤ 256 * b.val ∧ 256 * b.val + 256 ≤ (tileN c.val p).1 + (tileN c.val p).2 := by
  decide +kernel

/-- The elements of a tile. -/
def tileSet (c : Dev nD) (p : Tile) : Finset S32768x1024.Idx := rows 32768 (tile c p).1 (tile c p).2

/-- So the tiles are disjoint, -/
theorem tileSet_disjoint (c : Dev nD) (p q : Tile) (h : p ≠ q) : Disjoint (tileSet c p) (tileSet c q) := by
  unfold tileSet
  rw [tile_eq, tile_eq]
  exact rows_disjoint (tiles_apart_N c p q h)

/-- and cover the result. -/
theorem tileSet_cover (c : Dev nD) : (Finset.univ : Finset Tile).biUnion (tileSet c) = Finset.univ := by
  refine Finset.eq_univ_of_forall fun i => ?_
  have hi : (i 0).val < 32768 := (i 0).isLt
  obtain ⟨p, h1, h2⟩ := tiles_cover_N c ⟨(i 0).val / 256, by omega⟩
  refine Finset.mem_biUnion.mpr ⟨p, Finset.mem_univ _, ?_⟩
  unfold tileSet
  rw [tile_eq, mem_rows]
  dsimp only at h1 h2
  omega

/-! ## The argument's rows -/

/-- The local chunks cover the argument, -/
theorem chunks_cover : (Finset.univ : Finset (Fin 8)).biUnion (fun i => rows 16384 (2048 * i.val) 2048) = Finset.univ := by
  refine Finset.eq_univ_of_forall fun i => ?_
  have hi : (i 0).val < 16384 := (i 0).isLt
  refine Finset.mem_biUnion.mpr ⟨⟨(i 0).val / 2048, by omega⟩, Finset.mem_univ _, ?_⟩
  rw [mem_rows]
  dsimp only
  omega

/-- and are disjoint. -/
theorem chunks_disjoint (i j : Fin 8) (h : i ≠ j) : Disjoint (rows 16384 (2048 * i.val) 2048) (rows 16384 (2048 * j.val) 2048) := by
  have : i.val ≠ j.val := fun e => h (Fin.ext e)
  exact rows_disjoint (by omega)

/-- Whether a transfer reads the argument. -/
def isX : Tr → Bool
  | .x _ => true | .gx _ => true | _ => false

/-- First row an x transfer reads, as a number. -/
def xo (t : Tr) (c : Dev nD) : ℕ := xOff t c 0

/-- An x transfer reads the rows it writes, counted within the half. -/
theorem xo_eq : ∀ (t : Tr) (c : Dev nD), isX t = true → xo t c = lo t c % 16384 := by decide +kernel

/-- The rows the argument's reading transfers read; none for the others. -/
def xRows (t : Tr) (c : Dev nD) : Finset S16384x1024.Idx := if isX t then rows 16384 (xo t c) (len t) else ∅

/-- Two x transfers read different rows, -/
theorem xo_apart : ∀ (c : Dev nD) (t u : Tr), isX t = true → isX u = true → t ≠ u → xo t c + len t ≤ xo u c ∨ xo u c + len u ≤ xo t c := by decide +kernel

/-- so these sets are disjoint. -/
theorem xRows_disjoint (c : Dev nD) (t u : Tr) (h : t ≠ u) : Disjoint (xRows t c) (xRows u c) := by
  unfold xRows
  by_cases ht : isX t = true
  · by_cases hu : isX u = true
    · rw [if_pos ht, if_pos hu]; exact rows_disjoint (xo_apart c t u ht hu h)
    · rw [if_neg hu]; exact Finset.disjoint_empty_right _
  · rw [if_neg ht]; exact Finset.disjoint_empty_left _

/-! ## Whose argument a row comes from -/

/-- The source of a block of 256 rows, as a number: its own half from the device itself, the other half from the device across x
    whose quarter it is, the first six blocks of the diagonal quarter from its own x neighbour. -/
def srcN (c b : ℕ) : ℕ :=
  if b / 64 = c / 4 then c else if b % 64 / 16 + c % 4 = 3 ∧ b % 16 < 6 then 4 * (b / 64) + c % 4 else 4 * (b / 64) + b % 64 / 16

/-- It is a device. -/
theorem srcN_lt : ∀ (c : Fin 8) (b : Fin 128), srcN c.val b.val < 8 := by decide +kernel

/-- The device whose argument device `c`'s result holds at an index. -/
def srcDev (c : Dev nD) (i : S32768x1024.Idx) : Dev nD :=
  ⟨srcN c.val ((i 0).val / 256), srcN_lt c ⟨(i 0).val / 256, by have : (i 0).val < 32768 := (i 0).isLt; omega⟩⟩

/-- Where in that argument. -/
def srcIdx (i : S32768x1024.Idx) : S16384x1024.Idx :=
  Shape.pair (d := ![16384, 1024]) ⟨(i 0).val % 16384, Nat.mod_lt _ (by decide)⟩ (i 1)

variable (m : (ℓ : Loc nD τ sig) → Buf (Elt F) ℓ)

/-- Device `c`'s argument at launch. -/
def argAt (c : Dev nD) : S16384x1024.Idx → Elt F .f32 := m ((c : Thread nD τ).loc main_arg0)

/-- Device `c`'s result once everything has landed. -/
def W (c : Dev nD) : S32768x1024.Idx → Elt F .f32 := fun i => argAt m (srcDev c i) (srcIdx i)

/-- Both ends of a passed-on piece hold the same device's rows there. -/
theorem src_pass : ∀ (t : Tr) (c : Dev nD) (k : Fin 2), isX t = false → 256 * k.val < len t →
    srcN (nbr t c).val (lo t c / 256 + k.val) = srcN c.val (lo t c / 256 + k.val) := by decide +kernel

/-- The rows an x transfer writes come from its sender. -/
theorem src_x : ∀ (t : Tr) (c : Dev nD) (k : Fin 2), isX t = true → srcN (nbr t c).val (lo t c / 256 + k.val) = c.val := by decide +kernel

/-- A region begins with a block of 512 rows, or is one of 256. -/
theorem lo_block : ∀ (t : Tr) (c : Dev nD), lo t c % 512 = 0 ∨ lo t c % 256 = 0 ∧ len t = 256 := by decide +kernel

/-- A region has 512 or 256 rows. -/
theorem len_cases : ∀ t : Tr, len t = 512 ∨ len t = 256 := by decide +kernel

/-- A region lies in one half. -/
theorem lo_half : ∀ (t : Tr) (c : Dev nD), lo t c / 16384 = (lo t c + (len t - 1)) / 16384 := by decide +kernel

/-- A device's own half is its own argument. -/
theorem src_own : ∀ (c : Fin 8) (b : Fin 64), srcN c.val (64 * (c.val / 4) + b.val) = c.val := by decide +kernel

/-- A row of a transfer's region lies in one of its (at most two) blocks of 256. -/
theorem block_of (t : Tr) (c : Dev nD) {r : ℕ} (h : lo t c ≤ r ∧ r < lo t c + len t) :
    ∃ k : Fin 2, r / 256 = lo t c / 256 + k.val ∧ 256 * k.val < len t := by
  rcases lo_block t c with hb | hb
  · rcases len_cases t with hl | hl
    · exact ⟨⟨(r - lo t c) / 256, by omega⟩, by dsimp only; omega, by dsimp only; omega⟩
    · exact ⟨⟨(r - lo t c) / 256, by omega⟩, by dsimp only; omega, by dsimp only; omega⟩
  · exact ⟨⟨0, by decide⟩, by dsimp only; omega, by dsimp only; omega⟩

/-- What a device passes on is what its neighbour is to hold there. -/
theorem W_pass (t : Tr) (c : Dev nD) (ht : isX t = false) (i : S32768x1024.Idx) (hi : i ∈ rows 32768 (lo t c) (len t)) :
    W m c i = W m (nbr t c) i := by
  rw [mem_rows] at hi
  obtain ⟨k, hk, hl⟩ := block_of t c hi
  have : srcDev c i = srcDev (nbr t c) i := Fin.ext (by
    show srcN _ _ = srcN _ _
    rw [hk]; exact (src_pass t c k ht hl).symm)
  unfold W
  rw [this]

/-- What it sends over x of its argument is what its neighbour is to hold there. -/
theorem W_x (t : Tr) (c : Dev nD) (ht : isX t = true) (i : S32768x1024.Idx) (hi : i ∈ rows 32768 (lo t c) (len t)) :
    W m (nbr t c) i = argAt m c (srcIdx i) := by
  rw [mem_rows] at hi
  obtain ⟨k, hk, -⟩ := block_of t c hi
  have : srcDev (nbr t c) i = c := Fin.ext (by
    show srcN _ _ = _
    rw [hk]; exact src_x t c k ht)
  unfold W
  rw [this]

/-- In its own half a device is to hold its argument. -/
theorem W_own (c : Dev nD) (i : S32768x1024.Idx) (hi : (i 0).val / 16384 = c.val / 4) : W m c i = argAt m c (srcIdx i) := by
  have : srcDev c i = c := Fin.ext (by
    show srcN _ _ = _
    have := src_own c ⟨(i 0).val / 256 % 64, Nat.mod_lt _ (by decide)⟩
    dsimp only at this
    rw [show (i 0).val / 256 = 64 * (c.val / 4) + (i 0).val / 256 % 64 by omega]; exact this)
  unfold W
  rw [this]

end Cert.Gather

end
-- ==== Proof.Res.lean ====
/-
The resources: the ghost algebra, the semaphore cells, what is held of the argument and the result at each stage of a
transfer, and the one-round schedule that says what each signal and each landing hands over.
-/
module

public import proofs.«01_k».proof.Proof.Rows
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The ghost algebra -/

/-- The cells' rounds, whose duties are named by axis; beside it the counters of the local copies. -/
abbrev UB : Type := URounds (GSem nD τ sig) (Fin 3)
/-- The ghost state: the region's, the cells' rounds, and the local copies' counters. -/
abbrev UU : Type := UR sig nD τ × (UB × Counters)

local notation "𝕄" => MT nD τ sig Unit (Elt F) ℕ UU ℕ

/-- Where the region's part lies; -/
abbrev EP : Emb (UR sig nD τ) (MT nD τ sig Unit (Elt F) ℕ UU ℕ) := embL

/-- the rounds' part; -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

/-- (it is a part of the user's ghost state) -/
instance ER_landsIn : (ER : Emb UB 𝕄).LandsIn (upEmb : UEmb _ 𝕄) := by unfold ER; infer_instance

/-- the counters' part. -/
abbrev EC : UEmb Counters (MT nD τ sig Unit (Elt F) ℕ UU ℕ) := countersEmb

variable (m : (ℓ : Loc nD τ sig) → Buf (Elt F) ℓ) (ρ : Dev nD → PrngReg)

/-! ## Cells -/

/-- A device's barrier cell, -/
abbrev barCell (c : Dev nD) : GSem nD τ sig := ((c : Thread nD τ), .reg barS)
/-- the cell of a transfer's sending, -/
abbrev sendCell (t : Tr) (c : Dev nD) : GSem nD τ sig := ((c : Thread nD τ), .dma (ss t))
/-- and that of the landing it gets under that name. -/
abbrev recvCell (t : Tr) (c : Dev nD) : GSem nD τ sig := ((c : Thread nD τ), .dma (rs t))

/-- An end of a transfer: `inl` its sending, `inr` its landing. -/
abbrev End : Type := Tr ⊕ Tr
/-- The semaphore of an end. -/
def semOf : End → DmaSem sig
  | .inl t => ss t
  | .inr t => rs t

/-- Different ends have different semaphores, -/
theorem semOf_inj_N : ∀ e e' : End, semOf e = semOf e' → e = e' := by decide +kernel
/-- that is, `semOf` is injective, -/
theorem semOf_injective : Function.Injective semOf := fun e e' => semOf_inj_N e e'
/-- and none is one of the local copies'. -/
theorem semOf_ne_ls : ∀ (e : End) (s : Fin 2), semOf e ≠ ls s ∧ semOf e ≠ ws s := by decide +kernel

/-- The end a semaphore belongs to, if any. -/
def endOf (q : DmaSem sig) : Option End :=
  open Classical in if h : ∃ e, semOf e = q then some h.choose else none

/-- `endOf` finds the end from its semaphore: -/
theorem endOf_semOf (e : End) : endOf (semOf e) = some e := by
  unfold endOf
  have h : ∃ e', semOf e' = semOf e := ⟨e, rfl⟩
  rw [dif_pos h]
  exact congrArg some (semOf_injective h.choose_spec)

/-- on a sending's semaphore, -/
theorem endOf_ss (t : Tr) : endOf (ss t) = some (.inl t) := endOf_semOf (.inl t)
/-- on a landing's; -/
theorem endOf_rs (t : Tr) : endOf (rs t) = some (.inr t) := endOf_semOf (.inr t)
/-- and it finds nothing at a copy in -/
theorem endOf_ls (s : Fin 2) : endOf (ls s) = none := by
  unfold endOf; exact dif_neg fun ⟨e, h⟩ => (semOf_ne_ls e s).1 h
/-- nor at a copy out. -/
theorem endOf_ws (s : Fin 2) : endOf (ws s) = none := by
  unfold endOf; exact dif_neg fun ⟨e, h⟩ => (semOf_ne_ls e s).2 h

/-- The credit a transfer's completion raises its semaphores by. -/
def cr (t : Tr) : ℕ := (dV t 0).view.dmaCredit

/-- A transfer's credit is not zero. -/
theorem cr_pos (t : Tr) : 0 < cr t := View.dmaCredit_pos _ (by cases t <;> decide +revert)

/-- The rows written, the rows received and the rows read count the same: -/
theorem dV_credit (t : Tr) (c : Dev nD) : (dV t c).view.dmaCredit = cr t := rfl
/-- those received, -/
theorem rV_credit (t : Tr) (c : Dev nD) : (rV t c).view.dmaCredit = cr t := rfl
/-- and those read. -/
theorem sV_credit (t : Tr) (c : Dev nD) : (sV t c).view.dmaCredit = cr t := by cases t <;> rfl

/-! ## What is held -/

/-- The result of a device, -/
abbrev oL (c : Dev nD) : Loc nD τ sig := (c : Thread nD τ).loc main_v1
/-- and its argument. -/
abbrev aL (c : Dev nD) : Loc nD τ sig := (c : Thread nD τ).loc main_arg0

/-- The transfer whose landing a passed-on piece waits for. -/
def par : Tr → Option Tr
  | .x _ => none
  | .gx _ => none
  | .yd i => some (.x i)
  | .zd i => some (.x i)
  | .y2 i => some (.zd ⟨3 + i.val, by have := i.isLt; omega⟩)
  | .z2 i => some (.yd ⟨5 + i.val, by have := i.isLt; omega⟩)

/-- The share a transfer holds of the rows it reads: the local copies read the argument, and `yd` and `zd` the same rows. -/
def shr : Tr → PosShare TreeShare
  | .x _ => fullShare.right
  | .gx _ => fullShare.right
  | .yd _ => fullShare.left
  | .zd _ => fullShare.right
  | .y2 _ => fullShare
  | .z2 _ => fullShare

/-- The contents it reads from. -/
def srcF (t : Tr) (c : Dev nD) : Buf (Elt F) ((sV t c).view.loc (c : Thread nD τ)) :=
  match t with
  | .x _ => argAt m c
  | .gx _ => argAt m c
  | .yd _ => W m c
  | .zd _ => W m c
  | .y2 _ => W m c
  | .z2 _ => W m c

/-- Device `c` holds the rows transfer `t` reads. -/
def srcPts (t : Tr) (c : Dev nD) : sProp 𝕄 :=
  (sV t c).view.loc (c : Thread nD τ) ↦[(sV t c).view.set]{shr t} srcF m t c

/-- The rows transfer `t` of device `c` writes on its neighbour, at any contents. -/
def hole (t : Tr) (c : Dev nD) : sProp 𝕄 :=
  iprop(∃ f : Buf (Elt F) (oL (nbr t c)), oL (nbr t c) ↦[rows 32768 (lo t c) (len t)]{fullShare} f)

/-- The rows device `c` receives as `t`, received. -/
def landed (t : Tr) (c : Dev nD) : sProp 𝕄 :=
  oL c ↦[rows 32768 (ro t c) (len t)]{fullShare} W m c

/-- The rows that device `c` writes on its neighbour over axis `k`. -/
def holes (k : Fin 3) (c : Dev nD) : sProp 𝕄 := bigSep Finset.univ fun t => if dir t = k then hole t c else iprop(emp)

/-- Rows to be read can be handed over through a cell, -/
instance srcPts_storable (t : Tr) (c : Dev nD) : BI.Storable (upEmb : UEmb _ 𝕄) (srcPts m t c) := by unfold srcPts; infer_instance
/-- so can rows received, -/
instance landed_storable (t : Tr) (c : Dev nD) : BI.Storable (upEmb : UEmb _ 𝕄) (landed m t c) := by unfold landed; infer_instance
/-- rows to be written, -/
instance hole_storable (t : Tr) (c : Dev nD) : BI.Storable (upEmb : UEmb _ 𝕄) (hole (F := F) t c) := by unfold hole; infer_instance
/-- and all that a neighbour will write. -/
instance holes_storable (k : Fin 3) (c : Dev nD) : BI.Storable (upEmb : UEmb _ 𝕄) (holes (F := F) k c) := by
  unfold holes
  have (t : Tr) : BI.Storable (upEmb : UEmb _ 𝕄) (if dir t = k then hole (F := F) t c else iprop(emp)) := by split <;> infer_instance
  infer_instance

/-- A transfer over x reads rows of the argument, -/
theorem srcPts_arg (t : Tr) (c : Dev nD) (h : isX t = true) :
    srcPts m t c = (aL c ↦[rows 16384 (xo t c) (len t)]{fullShare.right} argAt m c : sProp 𝕄) := by
  cases t with
  | x i =>
    unfold srcPts
    rw [show (sV (.x i) c).view.set = rows 16384 (xo (.x i) c) (len (.x i)) from
      (View.set_slice_whole _ _).trans (unit_set (xOff_one _ c) (xOff_inb _ c))]
    rfl
  | gx i =>
    unfold srcPts
    rw [show (sV (.gx i) c).view.set = rows 16384 (xo (.gx i) c) (len (.gx i)) from
      (View.set_slice_whole _ _).trans (unit_set (xOff_one _ c) (xOff_inb _ c))]
    rfl
  | yd i => cases h
  | zd i => cases h
  | y2 i => cases h
  | z2 i => cases h

/-- any other rows of the result. -/
theorem srcPts_res (t : Tr) (c : Dev nD) (h : isX t = false) :
    srcPts m t c = (oL c ↦[rows 32768 (lo t c) (len t)]{shr t} W m c : sProp 𝕄) := by
  cases t with
  | x i => cases h
  | gx i => cases h
  | yd i => unfold srcPts; rw [show (sV (.yd i) c).view.set = rows 32768 (lo (.yd i) c) (len (.yd i)) from dV_set _ c]; rfl
  | zd i => unfold srcPts; rw [show (sV (.zd i) c).view.set = rows 32768 (lo (.zd i) c) (len (.zd i)) from dV_set _ c]; rfl
  | y2 i => unfold srcPts; rw [show (sV (.y2 i) c).view.set = rows 32768 (lo (.y2 i) c) (len (.y2 i)) from dV_set _ c]; rfl
  | z2 i => unfold srcPts; rw [show (sV (.z2 i) c).view.set = rows 32768 (lo (.z2 i) c) (len (.z2 i)) from dV_set _ c]; rfl

/-! ## What a transfer writes -/

/-- The row of an element of a slice of rows, -/
theorem emb_row {N n : ℕ} {off : Fin 2 → ℕ} (inb : ∀ a, off a + (Sh n).size a ≤ (Sh N).size a) (j : (Sh n).Idx) :
    (((Rect.unit (s := Sh N) off (Sh n).size inb).emb j 0 : Fin _) : ℕ) = off 0 + (j 0).val := by
  rw [Rect.emb_apply]; show off 0 + 1 * (j 0).val = _; rw [Nat.one_mul]

/-- and its column. -/
theorem emb_col {N n : ℕ} {off : Fin 2 → ℕ} (h1 : off 1 = 0) (inb : ∀ a, off a + (Sh n).size a ≤ (Sh N).size a) (j : (Sh n).Idx) :
    (((Rect.unit (s := Sh N) off (Sh n).size inb).emb j 1 : Fin _) : ℕ) = (j 1).val := by
  rw [Rect.emb_apply]; show off 1 + 1 * (j 1).val = _; rw [Nat.one_mul, h1, Nat.zero_add]

/-- An index is its row and its column. -/
theorem idx2_ext {N : ℕ} {i j : (Sh N).Idx} (h0 : (i 0).val = (j 0).val) (h1 : (i 1).val = (j 1).val) : i = j := by
  funext a
  apply Fin.ext
  fin_cases a
  · exact h0
  · exact h1

/-- Reading rows `o + j` of the argument where the result's are `o' + j`, with `o` the residue of `o'` in the half. -/
theorem src_row {n o' : ℕ} {off off' : Fin 2 → ℕ} (h1 : off 1 = 0) (h1' : off' 1 = 0) (h0 : off 0 = off' 0 % 16384)
    (inb : ∀ a, off a + (Sh n).size a ≤ (Sh 16384).size a) (inb' : ∀ a, off' a + (Sh n).size a ≤ (Sh 32768).size a) (j : (Sh n).Idx) :
    (Rect.unit (s := Sh 16384) off (Sh n).size inb).emb j = srcIdx ((Rect.unit (s := Sh 32768) off' (Sh n).size inb').emb j) := by
  refine idx2_ext ?_ ?_
  · rw [emb_row]
    show _ = (((Rect.unit (s := Sh 32768) off' (Sh n).size inb').emb j 0 : Fin _) : ℕ) % 16384
    rw [emb_row]
    have hj : (j 0).val < n := (j 0).isLt
    have hi : off 0 + n ≤ 16384 := inb 0
    omega
  · rw [emb_col h1]
    show _ = (((Rect.unit (s := Sh 32768) off' (Sh n).size inb').emb j 1 : Fin _) : ℕ)
    rw [emb_col h1']

/-- A transfer writes its receiver's final contents. -/
theorem land_at (t : Tr) (c : Dev nD) (fd : Buf (Elt F) ((dV t c).view.loc (nbr t c : Thread nD τ))) (i : S32768x1024.Idx)
    (hi : i ∈ rows 32768 (lo t c) (len t)) :
    (dV t c).view.write (Elt F) fd ((sV t c).view.read (Elt F) (srcF m t c)) Finset.univ i = W m (nbr t c) i := by
  have hi' : i ∈ (dV t c).view.set := by rw [dV_set]; exact hi
  obtain ⟨j, -, rfl⟩ := Finset.mem_map.mp hi'
  rw [View.write_emb_of_mem _ _ (Finset.mem_univ j)]
  cases t with
  | x k =>
    rw [W_x m (.x k) c rfl _ hi]
    exact congrArg (argAt m c) (src_row (o' := 0) (xOff_one _ c) (dOff_one _ c) (xo_eq (.x k) c rfl) (xOff_inb _ c) (dOff_inb _ c) j)
  | gx k =>
    rw [W_x m (.gx k) c rfl _ hi]
    exact congrArg (argAt m c) (src_row (o' := 0) (xOff_one _ c) (dOff_one _ c) (xo_eq (.gx k) c rfl) (xOff_inb _ c) (dOff_inb _ c) j)
  | yd k => exact W_pass m (.yd k) c rfl _ hi
  | zd k => exact W_pass m (.zd k) c rfl _ hi
  | y2 k => exact W_pass m (.y2 k) c rfl _ hi
  | z2 k => exact W_pass m (.z2 k) c rfl _ hi

/-- What a transfer leaves on its neighbour is that neighbour's landing. -/
theorem landed_of (t : Tr) (c : Dev nD) (fd : Buf (Elt F) ((dV t c).view.loc (nbr t c : Thread nD τ))) :
    ((dV t c).view.loc (nbr t c : Thread nD τ) ↦[(dV t c).view.set]{fullShare}
        ((dV t c).view.write (Elt F) fd ((sV t c).view.read (Elt F) (srcF m t c)) Finset.univ) : sProp 𝕄)
      ⊢ landed m t (nbr t c) := by
  unfold landed
  rw [show ro t (nbr t c) = lo t c from rOff_nbr t c]
  rw [show (dV t c).view.set = rows 32768 (lo t c) (len t) from dV_set t c]
  exact Entails.of_eq (pointsTo_congr (land_at m t c fd))

/-! ## The schedule -/

/-- One round: a barrier cell has a duty per axis, of one unit, handing over the neighbour's rows; a transfer's two cells one
    duty each, of its credit, handing back what it read and handing over what it wrote. -/
def sched : Rounds.Schedule (GSem nD τ sig) (Fin 3) 𝕄 where
  duties g r := if r = 0 ∧ g.1.2 = .tc then
    (match g.2 with
      | .reg _ => Finset.univ
      | .dma q => match endOf q with
        | none => ∅
        | some _ => {0}) else ∅
  unitless _ := False
  amount g _ _ := match g.2 with
    | .reg _ => 1
    | .dma q => match endOf q with
      | none => 1
      | some (.inl t) => cr t
      | some (.inr t) => cr t
  payload g _ d := match g.2 with
    | .reg _ => holes d g.1.1
    | .dma q => match endOf q with
      | none => iprop(emp)
      | some (.inl t) => srcPts m t g.1.1
      | some (.inr t) => landed m t g.1.1
  amount_pos g _ _ _ := by
    split
    · exact Nat.one_pos
    · split
      · exact Nat.one_pos
      · exact cr_pos _
      · exact cr_pos _

/-- Every payload can be handed over. -/
instance sched_storable (g : GSem nD τ sig) (r : ℕ) (d : Fin 3) : BI.Storable (upEmb : UEmb _ 𝕄) ((sched m).payload g r d) := by
  unfold sched
  dsimp only
  (repeat' split) <;> infer_instance

section Sched
variable (t : Tr) (c : Dev nD)

/-- A barrier cell has a duty for each axis, -/
theorem duties_bar : (sched m).duties (barCell c) 0 = Finset.univ := by dsimp only [sched]; exact if_pos ⟨rfl, rfl⟩
/-- a sending's cell has one, -/
theorem duties_send : (sched m).duties (sendCell t c) 0 = {0} := by
  dsimp only [sched]; rw [endOf_ss]; exact if_pos ⟨rfl, rfl⟩
/-- and so has a landing's, -/
theorem duties_recv : (sched m).duties (recvCell t c) 0 = {0} := by
  dsimp only [sched]; rw [endOf_rs]; exact if_pos ⟨rfl, rfl⟩
/-- in the first round, and none later. -/
theorem duties_later (g : GSem nD τ sig) : ∀ r, 1 ≤ r → (sched m).duties g r = ∅ :=
  fun r hr => by dsimp only [sched]; exact if_neg fun h => by omega

/-- A barrier's duty is one unit, -/
theorem amount_bar (d : Fin 3) : (sched m).amount (barCell c) 0 d = 1 := rfl
/-- a sending's the transfer's credit, -/
theorem amount_send (d : Fin 3) : (sched m).amount (sendCell t c) 0 d = cr t := by dsimp only [sched]; rw [endOf_ss]
/-- and so is a landing's. -/
theorem amount_recv (d : Fin 3) : (sched m).amount (recvCell t c) 0 d = cr t := by dsimp only [sched]; rw [endOf_rs]

/-- A signal hands over the rows that the receiver will write, -/
theorem payload_bar (d : Fin 3) : (sched m).payload (barCell c) 0 d = holes d c := rfl
/-- a sending hands back the rows read, -/
theorem payload_send (d : Fin 3) : (sched m).payload (sendCell t c) 0 d = srcPts m t c := by dsimp only [sched]; rw [endOf_ss]
/-- a landing the rows received. -/
theorem payload_recv (d : Fin 3) : (sched m).payload (recvCell t c) 0 d = landed m t c := by dsimp only [sched]; rw [endOf_rs]

/-- A round of a single duty waits for that duty's amount and gives its payload. -/
theorem single {g : GSem nD τ sig} (h : (sched m).duties g 0 = {0}) :
    (sched m).expect g 0 = (sched m).amount g 0 0
      ∧ bigSep ((sched m).duties g 0 \ ∅) (fun d => (sched m).payload g 0 d) = (sched m).payload g 0 0 := by
  constructor
  · show ((sched m).duties g 0).sum _ = _
    rw [h]; exact Finset.sum_singleton _ _
  · rw [h, Finset.sdiff_empty]; exact bigSep_singleton

/-- A barrier waits for three units, -/
theorem expect_bar : (sched m).expect (barCell c) 0 = 3 := by
  show ((sched m).duties (barCell c) 0).sum _ = _
  rw [duties_bar]; rfl
/-- a sending's wait is for its credit, -/
theorem expect_send : (sched m).expect (sendCell t c) 0 = cr t := (single m (duties_send m t c)).1.trans (amount_send m t c 0)
/-- and so is a landing's. -/
theorem expect_recv : (sched m).expect (recvCell t c) 0 = cr t := (single m (duties_recv m t c)).1.trans (amount_recv m t c 0)

/-- What the barrier's wait gives: the rows to write on all three neighbours. -/
theorem rest_bar : bigSep ((sched m).duties (barCell c) 0 \ ∅) (fun d => (sched m).payload (barCell c) 0 d)
    = bigSep Finset.univ fun k : Fin 3 => holes (F := F) k c := by
  rw [Finset.sdiff_empty, duties_bar]; rfl
/-- What a sending's wait gives: the rows read. -/
theorem rest_send : bigSep ((sched m).duties (sendCell t c) 0 \ ∅) (fun d => (sched m).payload (sendCell t c) 0 d) = srcPts m t c :=
  (single m (duties_send m t c)).2.trans (payload_send m t c 0)
/-- What a landing's wait gives: the rows received. -/
theorem rest_recv : bigSep ((sched m).duties (recvCell t c) 0 \ ∅) (fun d => (sched m).payload (recvCell t c) 0 d) = landed m t c :=
  (single m (duties_recv m t c)).2.trans (payload_recv m t c 0)

end Sched

end Cert.Gather

end
-- ==== Proof.State.lean ====
/-
How far a device has come, what it holds then, and the two facts about cutting a landed region into the pieces passed on.
-/
module

public import proofs.«01_k».proof.Proof.Res

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

/-! ## Cutting a landed region -/

/-- Whether a transfer is a chunk of the own quarter, whose rows are passed on twice, by halves of the share. -/
def isOwn : Tr → Bool
  | .x _ => true
  | _ => false

/-- The pieces of a landing that are passed on. -/
def kids (t : Tr) : Finset Tr := Finset.univ.filter fun k => par k = some t

/-- The rows of a landing that are not passed on. -/
def keep (t : Tr) (c : Dev nD) : Finset S32768x1024.Idx :=
  rows 32768 (ro t c) (len t) \ (kids t).biUnion fun k => rows 32768 (lo k c) (len k)

/-- What stays with the device of a landing. -/
def restPts (t : Tr) (c : Dev nD) : sProp 𝕄 :=
  if isOwn t then iprop(emp) else oL c ↦[keep t c]{fullShare} W m c

/-- The pieces passed on, each as its transfer will read it. -/
def kidPts (t : Tr) (c : Dev nD) : sProp 𝕄 := bigSep Finset.univ fun k => if par k = some t then srcPts m k c else iprop(emp)

/-- A chunk of the own quarter is passed on over y and over z. -/
theorem kids_own : ∀ i : Fin 8, kids (.x i) = {.yd i, .zd i} := by decide +kernel
/-- Any other landing is passed on at most once, -/
theorem kids_one : ∀ t k k' : Tr, isOwn t = false → par k = some t → par k' = some t → k = k' := by decide +kernel
/-- rows within it, -/
theorem kid_in : ∀ (k : Tr) (t : Tr) (c : Dev nD), par k = some t → ro t c ≤ lo k c ∧ lo k c + len k ≤ ro t c + len t := by decide +kernel
/-- from the result, -/
theorem kid_res : ∀ (k t : Tr), par k = some t → isX k = false := by decide +kernel

/-- at the full share. -/
theorem kid_shr (k t : Tr) (ht : isOwn t = false) (h : par k = some t) : shr k = fullShare := by
  cases k with
  | x i => cases h
  | gx i => cases h
  | yd i => injection h with h; subst h; cases ht
  | zd i => injection h with h; subst h; cases ht
  | y2 i => rfl
  | z2 i => rfl

/-- A landing is the pieces passed on and what stays. -/
theorem landed_cut (t : Tr) (c : Dev nD) : (landed m t c : sProp 𝕄) ⊣⊢ iprop(kidPts m t c ∗ restPts m t c) := by
  have hk : kidPts m t c = bigSep (kids t) fun k => srcPts m k c := by
    unfold kidPts kids; exact (bigSep_filter _ _ _).symm
  rw [hk]
  by_cases ht : isOwn t = true
  · cases t with
    | x i =>
      unfold restPts landed
      rw [if_pos ht, kids_own, BI.bigSep_insert (by simp), BI.bigSep_singleton, srcPts_res m _ c rfl, srcPts_res m _ c rfl]
      have h := pointsTo_share (Ix := Unit) (Name := ℕ) (U := UU) (Lvl := ℕ) (ℓ := oL c) (I := rows 32768 (ro (.x i) c) (len (.x i))) (f := W m c)
        (PosShare.mem_left_op_right fullShare)
      exact h.trans (sep_emp (PROP := sProp 𝕄)).symm
    | gx i => cases ht
    | yd i => cases ht
    | zd i => cases ht
    | y2 i => cases ht
    | z2 i => cases ht
  · have ht' : isOwn t = false := by simpa using ht
    unfold restPts landed keep
    rw [if_neg ht]
    have hsub : ((kids t).biUnion fun k => rows 32768 (lo k c) (len k)) ⊆ rows 32768 (ro t c) (len t) :=
      Finset.biUnion_subset.mpr fun k hk => rows_subset (kid_in k t c (Finset.mem_filter.mp hk).2)
    have hpt : (oL c ↦[(kids t).biUnion fun k => rows 32768 (lo k c) (len k)]{fullShare} W m c : sProp 𝕄)
        = bigSep (kids t) fun k => srcPts m k c := by
      rw [pointsTo_biUnion (kids t) _ fun k hk k' hk' hne => absurd (kids_one t k k' ht' (Finset.mem_filter.mp hk).2 (Finset.mem_filter.mp hk').2) hne]
      exact bigSep_congr fun k hk => by
        have hp := (Finset.mem_filter.mp hk).2
        rw [srcPts_res m k c (kid_res k t hp), kid_shr k t ht' hp]
    rw [← hpt]
    exact pointsTo_split_subset hsub

/-! ## How far a device has come -/

/-- The transfers it has started, those whose sending it has awaited, those it has received, the local chunks whose copying out
    it has started and those it has awaited. -/
structure St where
  went : List Tr := []
  back : List Tr := []
  got : List Tr := []
  moved : List (Fin 8) := []
  home : List (Fin 8) := []

/-- Whether the rows a transfer reads are there. -/
def ready (st : St) (t : Tr) : Bool :=
  match par t with
  | none => true
  | some u => decide (u ∈ st.got)

/-- Whether a buffer half is being copied out. -/
def busy (st : St) (s : Fin 2) : Bool := decide (∃ i, i ∈ st.moved ∧ i ∉ st.home ∧ half i = s)

/-- The level of a landing: x transfers first, then what is passed on once, then what is passed on twice. -/
def lvT : Tr → ℕ
  | .x _ => 2 | .gx _ => 2 | .yd _ => 3 | .zd _ => 3 | .y2 _ => 4 | .z2 _ => 4

/-- The state after a step. -/
def next (st : St) : Op → St
  | .send t => { st with went := t :: st.went }
  | .recv t => { st with got := t :: st.got }
  | .sent t => { st with back := t :: st.back }
  | .move i => { st with moved := i :: st.moved }
  | .stored i => { st with home := i :: st.home }
  | _ => st

/-- When a step can be taken. A landing may be awaited when every transfer still to start lands at a higher level. -/
def ok (st : St) : Op → Bool
  | .send t => decide (t ∉ st.went) && decide (t ∉ st.back) && ready st t
  | .recv t => decide (t ∉ st.got) && decide (∀ u, u ∉ st.went → lvT t < lvT u) && decide (∀ k, par k = some t → k ∉ st.went ∧ k ∉ st.back)
  | .sent t => decide (t ∈ st.went) && decide (t ∉ st.back)
  | .move i => decide (i ∉ st.moved) && decide (i ∉ st.home) && !busy st (half i)
  | .stored i => decide (i ∈ st.moved) && decide (i ∉ st.home) && decide (∀ j, j ∈ st.moved → j ∉ st.home → half j = half i → j = i)
  | _ => false

/-- A list of steps taken from a state, if each can be. -/
def okAll : St → List Op → Bool
  | _, [] => true
  | st, o :: os => ok st o && okAll (next st o) os

/-- The state after a list of steps. -/
def nextAll : St → List Op → St
  | st, [] => st
  | st, o :: os => nextAll (next st o) os

/-- The kernel's steps can be taken in its order, -/
theorem steps_ok : okAll {} steps = true := by decide +kernel

/-- and at the end every transfer has been sent and received and every chunk stored. -/
theorem steps_end : (∀ t, t ∈ (nextAll {} steps).back) ∧ (∀ t, t ∈ (nextAll {} steps).got) ∧ (∀ t, t ∈ (nextAll {} steps).went)
    ∧ (∀ i, i ∈ (nextAll {} steps).home) := by decide +kernel

/-! ## What it owes -/

/-- The landings still to be paid: of the transfers not started. -/
def obl (went : List Tr) (c : Dev nD) : CellTallies nD τ sig Unit :=
  ∑ t : Tr, if t ∈ went then 0 else tallyAt (recvCell t (nbr t c)) () (cr t)

/-- Starting a transfer pays its landing. -/
theorem obl_cons (went : List Tr) (t : Tr) (c : Dev nD) (h : t ∉ went) :
    obl went c = obl (t :: went) c + tallyAt (recvCell t (nbr t c)) () (cr t) := by
  unfold obl
  rw [← Finset.sum_erase_add _ _ (Finset.mem_univ t), ← Finset.sum_erase_add (a := t) Finset.univ _ (Finset.mem_univ t)]
  rw [if_neg h, if_pos (List.mem_cons_self), add_zero]
  congr 1
  refine Finset.sum_congr rfl fun u hu => ?_
  have hne : u ≠ t := Finset.ne_of_mem_erase hu
  by_cases hw : u ∈ went
  · rw [if_pos hw, if_pos (List.mem_cons_of_mem _ hw)]
  · rw [if_neg hw, if_neg (by rw [List.mem_cons]; tauto)]

/-- When all have started nothing is owed. -/
theorem obl_all (went : List Tr) (c : Dev nD) (h : ∀ t, t ∈ went) : obl went c = 0 := by
  unfold obl
  exact Finset.sum_eq_zero fun t _ => if_pos (h t)

/-- Only landings of transfers not started are owed. -/
theorem obl_pos {went : List Tr} {c : Dev nD} {g : GSem nD τ sig} {u : Unit} (h : 0 < obl went c g u) :
    ∃ t, t ∉ went ∧ g = recvCell t (nbr t c) := by
  by_contra hn
  have h0 : obl went c g u = 0 := by
    unfold obl
    rw [Finset.sum_apply, Finsupp.finset_sum_apply]
    refine Finset.sum_eq_zero fun t _ => ?_
    by_cases ht : t ∈ went
    · rw [if_pos ht]; rfl
    · rw [if_neg ht, tallyAt_apply, if_neg (fun h' => hn ⟨t, ht, h'.1⟩)]
  omega

/-- The levels are on the cells of the TensorCores. -/
def L (g : GSem nD τ sig) : Finset Unit := if g.1.2 = .tc then {()} else ∅

/-- Levels: landings by kind from 2 up, the handshake below them, everything a device pays itself at the bottom. -/
def lv (g : GSem nD τ sig) (_ : Unit) : ℕ :=
  match g.2 with
  | .reg _ => 1
  | .dma q => match endOf q with
    | some (.inr t) => lvT t
    | _ => 0

/-- Other cores' cells have none, -/
theorem L_of_ne (g : GSem nD τ sig) (h : g.1.2 ≠ .tc) : L g = ∅ := if_neg h
/-- a TensorCore's have one. -/
theorem L_tc (c : Dev nD) (sm : SemLoc sig) : L ((c : Thread nD τ), sm) = {()} := if_pos rfl

/-- A landing's level is its kind's; -/
theorem lv_recv (t : Tr) (c : Dev nD) : lv (recvCell t c) () = lvT t := by dsimp only [lv]; rw [endOf_rs]
/-- a sending is at the bottom, -/
theorem lv_send (t : Tr) (c : Dev nD) : lv (sendCell t c) () = 0 := by dsimp only [lv]; rw [endOf_ss]
/-- and so is a copy in -/
theorem lv_ls (s : Fin 2) (c : Dev nD) : lv ((c : Thread nD τ), .dma (ls s)) () = 0 := by dsimp only [lv]; rw [endOf_ls]
/-- and a copy out. -/
theorem lv_ws (s : Fin 2) (c : Dev nD) : lv ((c : Thread nD τ), .dma (ws s)) () = 0 := by dsimp only [lv]; rw [endOf_ws]

/-- Landings lie above the handshake. -/
theorem lvT_ge : ∀ t : Tr, 2 ≤ lvT t := by decide +kernel

/-- A device may wait on a semaphore below everything it still owes. -/
theorem mayWait_obl (went : List Tr) (c : Dev nD) (sm : SemLoc sig) (n : ℕ) (hn : lv ((c : Thread nD τ), sm) () = n)
    (h : ∀ u, u ∉ went → n < lvT u) : (levAts L lv : sProp 𝕄) ⊢ MayWait (c : Thread nD τ) sm () (obl went c) :=
  MayOwe.of_cut (L := L) (lev := lv) n (fun p hp => by rw [Finset.mem_singleton.mp hp, L_tc]; exact Finset.mem_singleton_self _)
    (fun g u hg => by obtain ⟨t, -, rfl⟩ := obl_pos hg; exact Finset.mem_singleton_self _)
    (fun p hp => by rw [Finset.mem_singleton.mp hp]; exact hn.le)
    (fun g u hg => by obtain ⟨t, ht, rfl⟩ := obl_pos hg; cases u; rw [lv_recv]; exact h t ht)

/-! ## The invariants of the cells -/

/-- A cell of a device: its barrier's, or an end of a transfer's. -/
abbrev Cell : Type := Dev nD × Option End
/-- The semaphore of a cell, -/
def csem : Option End → SemLoc sig
  | none => .reg barS
  | some e => .dma (semOf e)
/-- and the cell itself. -/
abbrev kcell (p : Cell) : GSem nD τ sig := ((p.1 : Thread nD τ), csem p.2)

/-- Every cell's invariant, under the names `K`, and that each has reached its only round. -/
def records (K : Cell → ℕ) : sProp 𝕄 :=
  iprop((bigSep Finset.univ fun p : Cell => cellInv ER (sched m) (K p) (kcell p)) ∗ bigSep Finset.univ fun p : Cell => reached ER (kcell p) 0)

/-- These facts can be used any number of times. -/
instance records_persistent (K : Cell → ℕ) : BI.Persistent (records m K) := by unfold records; infer_instance

/-- Among them is every cell's invariant, -/
theorem record_inv (K : Cell → ℕ) (p : Cell) : records m K ⊢ cellInv ER (sched m) (K p) (kcell p) := by
  unfold records
  exact sep_elim_left.trans (bigSep_elim (Finset.mem_univ p))
/-- and that it has reached its round. -/
theorem record_reached (K : Cell → ℕ) (p : Cell) : records m K ⊢ reached ER (kcell p) 0 := by
  unfold records
  exact sep_elim_right.trans (bigSep_elim (Finset.mem_univ p))

/-! ## What it holds -/

/-- Of a transfer it sends: before, its duty tokens, the rows to write and, once there, the rows to read; under way, the credit of its
    sending; after, the rows it read. -/
def sendS (st : St) (c : Dev nD) (t : Tr) : sProp 𝕄 :=
  if t ∈ st.back then iprop(semVal (sendCell t c) 0 ∗ srcPts m t c)
  else if t ∈ st.went then iprop(atPos ER (sendCell t c) 0 ∅ 0 ∗ cred (tallyAt (sendCell t c) () (cr t)))
  else iprop(atPos ER (sendCell t c) 0 ∅ 0 ∗ dutyTok ER (sendCell t c) 0 0 ∗ dutyTok ER (recvCell t (nbr t c)) 0 0 ∗ hole t c
    ∗ if ready st t then srcPts m t c else iprop(emp))

/-- Of a transfer it receives: before, the credit of its landing; after, the rows not passed on. -/
def recvS (st : St) (c : Dev nD) (t : Tr) : sProp 𝕄 :=
  if t ∈ st.got then iprop(semVal (recvCell t c) 0 ∗ restPts m t c)
  else iprop(atPos ER (recvCell t c) 0 ∅ 0 ∗ cred (tallyAt (recvCell t c) () (cr t)))

/-- A local chunk of the argument; -/
def aPts (c : Dev nD) (i : Fin 8) : sProp 𝕄 := (aV i).view.loc (c : Thread nD τ) ↦[(aV i).view.set]{fullShare.left} argAt m c
/-- its place in the result, at any contents; -/
def lHole (c : Dev nD) (i : Fin 8) : sProp 𝕄 :=
  iprop(∃ f : Buf (Elt F) ((lV i c).view.loc (c : Thread nD τ)), (lV i c).view.loc (c : Thread nD τ) ↦[(lV i c).view.set]{fullShare} f)
/-- at the final ones; -/
def lDone (c : Dev nD) (i : Fin 8) : sProp 𝕄 := (lV i c).view.loc (c : Thread nD τ) ↦[(lV i c).view.set]{fullShare} W m c
/-- and the buffer half, at any contents. -/
def bPts (c : Dev nD) (s : Fin 2) : sProp 𝕄 :=
  iprop(∃ f : Buf (Elt F) ((bV s).view.loc (c : Thread nD τ)), (bV s).view.loc (c : Thread nD τ) ↦[(bV s).view.set]{fullShare} f)

/-- The credit of a copy out. -/
def crL : ℕ := (lV 0 0).view.dmaCredit

/-- Of a local chunk: its rows of the argument, and its place in the result, in flight together with the buffer half. -/
def chunkS (st : St) (c : Dev nD) (i : Fin 8) : sProp 𝕄 :=
  iprop(aPts m c i ∗
    if i ∈ st.home then lDone m c i
    else if i ∈ st.moved then Flight EC (c : Thread nD τ) (.dma (ws (half i))) () crL iprop(lDone m c i ∗ bPts c (half i))
    else lHole c i)

/-- Of a buffer half: it and its counters, unless it is being copied out. -/
def slotS (st : St) (c : Dev nD) (s : Fin 2) : sProp 𝕄 :=
  iprop(semVal ((c : Thread nD τ), .dma (ls s)) 0 ∗
    if busy st s then iprop(emp) else iprop(bPts c s ∗ semVal ((c : Thread nD τ), .dma (ws s)) 0))

/-- What a device that has come as far as `st` holds. -/
def Inv (K : Cell → ℕ) (st : St) (c : Dev nD) : sProp 𝕄 :=
  iprop(records m K ∗ levAts L lv ∗ (∃ Wt, owes (c : Thread nD τ) (obl st.went c) Wt)
    ∗ (bigSep Finset.univ fun t => sendS m st c t) ∗ (bigSep Finset.univ fun t => recvS m st c t)
    ∗ (bigSep Finset.univ fun i => chunkS m st c i) ∗ (bigSep Finset.univ fun s => slotS st c s))

end Cert.Gather

end
-- ==== Proof.Steps.lean ====
/-
One rule per kind of step: from what a device holds before it, the step runs to what it holds after it; and by induction the
same for a list of steps that can be taken in order.
-/
module

public import proofs.«01_k».proof.Proof.State

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

/-- Nothing is called, so there are no variants. -/
abbrev 𝒱₀ : Variants := Variants.none

/-- Device `c`'s program `p` runs to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The invariants from the records: of a sending's cell, -/
theorem inv_send (K : Cell → ℕ) (t : Tr) (c : Dev nD) : records m K ⊢ cellInv ER (sched m) (K (c, some (.inl t))) (sendCell t c) :=
  record_inv m K (c, some (.inl t))
/-- of a landing's, -/
theorem inv_recv (K : Cell → ℕ) (t : Tr) (c : Dev nD) : records m K ⊢ cellInv ER (sched m) (K (c, some (.inr t))) (recvCell t c) :=
  record_inv m K (c, some (.inr t))
/-- and of a barrier's; -/
theorem inv_bar (K : Cell → ℕ) (c : Dev nD) : records m K ⊢ cellInv ER (sched m) (K (c, none)) (barCell c) := record_inv m K (c, none)
/-- and the round reached: by a sending's cell, -/
theorem reached_send (K : Cell → ℕ) (t : Tr) (c : Dev nD) : records m K ⊢ reached ER (sendCell t c) 0 := record_reached m K (c, some (.inl t))
/-- by a landing's, -/
theorem reached_recv (K : Cell → ℕ) (t : Tr) (c : Dev nD) : records m K ⊢ reached ER (recvCell t c) 0 := record_reached m K (c, some (.inr t))
/-- and by a barrier's. -/
theorem reached_bar (K : Cell → ℕ) (c : Dev nD) : records m K ⊢ reached ER (barCell c) 0 := record_reached m K (c, none)

/-! ## Starting a transfer -/

/-- Starting transfer `t` on device `c`, addressed to `n = nbr t c`: the rows it reads and the neighbour's rows go in, the credit of
    its sending comes out, and its landing is no longer owed. -/
theorem run_send (K : Cell → ℕ) (t : Tr) (c n : Dev nD) (hn : n = nbr t c)
    {hsc : (dV t c : Memref sig (Dev.tc n : Thread nD τ).2.kind .hbm (Sh (len t)) .f32).view.ref.isScScratch = false}
    {hsrc : (sV t c).view.WordExact} {hdst : (dV t c).view.WordExact}
    {hsem : DmaTarget.Typed .hbm (.dma (rs t)) (.remote (Dev.tc n : Thread nD τ) (dV t c) (.dma (ss t)) hsc)}
    {α : Type} {Q : α → sProp 𝕄} {k : PUnit → Prog (TpuEff nD τ sig (Elt F) Λ₀ .tc) α}
    (fd : Buf (Elt F) (oL (nbr t c))) (O : CellTallies nD τ sig Unit) (Wt : Waits sig Unit) :
    iprop(records m K ∗ srcPts m t c ∗ (oL (nbr t c) ↦[rows 32768 (lo t c) (len t)]{fullShare} fd)
        ∗ owes (c : Thread nD τ) (O + tallyAt (recvCell t (nbr t c)) () (cr t)) Wt
        ∗ dutyTok ER (sendCell t c) 0 0 ∗ dutyTok ER (recvCell t (nbr t c)) 0 0)
      ⊢ iprop(((cred (tallyAt (sendCell t c) () (cr t)) ∗ owes (c : Thread nD τ) O Wt) -∗ runs c (k ⟨⟩) Q)
          -∗ runs c (.op (.enqueueDma (sV t c) (.remote (Dev.tc n : Thread nD τ) (dV t c) (.dma (ss t)) hsc) (.dma (rs t)) hsrc hdst hsem) k) Q) := by
  subst hn
  have hset : (oL (nbr t c) ↦[rows 32768 (lo t c) (len t)]{fullShare} fd : sProp 𝕄)
      = ((dV t c).view.loc (nbr t c : Thread nD τ) ↦[(dV t c).view.set]{fullShare} fd : sProp 𝕄) := by
    rw [show (dV t c).view.set = rows 32768 (lo t c) (len t) from dV_set t c]
  rw [hset]
  refine BIBase.Entails.trans ?_ (Rounds.wp_send_pointsTo (Q := Q) (k := k) (hsc := hsc) (hsrc := hsrc) (hdst := hdst) (hsem := hsem) (defs := defs₀ (F := F)) 𝒱₀ ER (sched m) (c : Thread nD τ) none
    (κ₁ := K (c, some (.inl t))) (κ₂ := K (nbr t c, some (.inr t)))
    (r₁ := 0) (r₂ := 0) (d₁ := 0) (d₂ := 0) (fs := srcF m t c) (fd := fd) (q := shr t) (Es := Set.univ)
    (by rw [duties_send]; exact Finset.mem_singleton_self _) (by rw [duties_recv]; exact Finset.mem_singleton_self _)
    () () (cr t) rfl (amount_send m t c 0) (amount_recv m t (nbr t c) 0) O rfl (W := Wt)
    (by rw [payload_send]; exact BI.Entails.refl _)
    (by rw [payload_recv]; exact landed_of m t c fd))
  unfold srcPts
  iintro ⟨#HR, Hs, Hd, HO, H1, H2⟩
  isplitr; · iapply (inv_send m K t c); iexact HR
  isplitr; · iapply (inv_recv m K t (nbr t c)); iexact HR
  isplitl [Hs]; · iexact Hs
  isplitl [Hd]; · iexact Hd
  isplitl [HO]; · iexact HO
  isplitl [H1]; · iexact H1
  isplitr; · iapply (reached_send m K t c); iexact HR
  isplitl [H2]; · iexact H2
  iapply (reached_recv m K t (nbr t c)); iexact HR

/-- A transfer that is ready and has not started: its tokens, its target's rows and its source's. -/
theorem sendS_new (st : St) (c : Dev nD) (t : Tr) (h1 : t ∉ st.went) (h2 : t ∉ st.back) (h3 : ready st t = true) :
    sendS m st c t = iprop(atPos ER (sendCell t c) 0 ∅ 0 ∗ dutyTok ER (sendCell t c) 0 0 ∗ dutyTok ER (recvCell t (nbr t c)) 0 0 ∗ hole t c
      ∗ srcPts m t c) := by
  unfold sendS; rw [if_neg h2, if_neg h1, if_pos h3]

/-- One that has started: the credit of its sending. -/
theorem sendS_went (st : St) (c : Dev nD) (t : Tr) (h1 : t ∈ st.went) (h2 : t ∉ st.back) :
    sendS m st c t = iprop(atPos ER (sendCell t c) 0 ∅ 0 ∗ cred (tallyAt (sendCell t c) () (cr t))) := by
  unfold sendS; rw [if_neg h2, if_pos h1]

/-- One whose sending has been awaited: the rows read. -/
theorem sendS_back (st : St) (c : Dev nD) (t : Tr) (h2 : t ∈ st.back) :
    sendS m st c t = iprop(semVal (sendCell t c) 0 ∗ srcPts m t c) := by
  unfold sendS; rw [if_pos h2]

/-- Taking a step `o` runs from `Inv st` to `Inv (next st o)`. -/
def Steps (K : Cell → ℕ) (st : St) (c : Dev nD) (o : Op) : Prop :=
  ∀ (p : Prog (TpuEff nD τ sig (Elt F) Λ₀ .tc) PUnit) (Q : PUnit → sProp 𝕄),
    Inv m K st c ⊢ iprop((Inv m K (next st o) c -∗ runs c p Q) -∗ runs c ((text c o).bind fun _ => p) Q)

/-- Starting a transfer. -/
theorem step_send (K : Cell → ℕ) (st : St) (c : Dev nD) (t : Tr) (h : ok st (.send t) = true) : Steps m K st c (.send t) := by
  intro p Q
  simp only [ok, Bool.and_eq_true, decide_eq_true_eq] at h
  obtain ⟨⟨hw, hb⟩, hr⟩ := h
  unfold Inv text
  simp only [Prog.lift, Prog.bind_op, Prog.bind_ret]
  iintro ⟨#HR, #HL, ⟨%Wt, HO⟩, HS, HV, HC, HB⟩ Hk
  ihave HS' := (bigSep_univ_update (Φ := fun t => sendS m st c t) (Ψ := fun u => sendS m (next st (.send t)) c u) t (fun u hu => by
    show sendS m { st with went := t :: st.went } c u = sendS m st c u
    unfold sendS ready
    simp only [List.mem_cons, hu, false_or])) $$ HS
  icases HS' with ⟨Ht, HS⟩
  ihave Ht' := (Entails.of_eq (sendS_new m st c t hw hb hr)) $$ Ht
  unfold hole
  icases Ht' with ⟨Hat, H1, H2, ⟨%fd, Hd⟩, Hs⟩
  rw [obl_cons st.went t c hw]
  iapply (run_send m K t c _ (tdev_eq (dir t) c) fd (obl (t :: st.went) c) Wt) $$ [Hs Hd HO H1 H2]
  · isplitr; · iexact HR
    isplitl [Hs]; · iexact Hs
    isplitl [Hd]; · iexact Hd
    isplitl [HO]; · iexact HO
    isplitl [H1] <;> iassumption
  iintro ⟨Hc, HO⟩
  iapply Hk
  isplitr; · iexact HR
  isplitr; · iexact HL
  isplitl [HO]; · iexists Wt; iexact HO
  isplitl [HS Hat Hc]
  · iapply HS
    iapply (Entails.of_eq (sendS_went m (next st (.send t)) c t (List.mem_cons_self) hb).symm)
    isplitl [Hat] <;> iassumption
  isplitl [HV]; · iexact HV
  isplitl [HC]; · iexact HC
  iexact HB

/-! ## Awaiting a sending -/

/-- Awaiting a sending. -/
theorem step_sent (K : Cell → ℕ) (st : St) (c : Dev nD) (t : Tr) (h : ok st (.sent t) = true) : Steps m K st c (.sent t) := by
  intro p Q
  simp only [ok, Bool.and_eq_true, decide_eq_true_eq] at h
  obtain ⟨hw, hb⟩ := h
  unfold Inv text
  simp only [Prog.lift, Prog.bind_op, Prog.bind_ret]
  iintro ⟨#HR, #HL, ⟨%Wt, HO⟩, HS, HV, HC, HB⟩ Hk
  ihave HS' := (bigSep_univ_update (Φ := fun t => sendS m st c t) (Ψ := fun u => sendS m (next st (.sent t)) c u) t (fun u hu => by
    show sendS m { st with back := t :: st.back } c u = sendS m st c u
    unfold sendS ready
    simp only [List.mem_cons, hu, false_or])) $$ HS
  icases HS' with ⟨Ht, HS⟩
  ihave Ht' := (Entails.of_eq (sendS_went m st c t hw hb)) $$ Ht
  icases Ht' with ⟨Hat, Hc⟩
  iapply (Rounds.wp_wait_rest_token 𝒱₀ ER (sched m) (c : Thread nD τ) none (κ := K (c, some (.inl t)))
      (wpE_waitDma2_eq 𝒱₀ (c : Thread nD τ) none Set.univ) (Set.mem_univ _) () (O := obl st.went c) (W := Wt) (R := 0) (m := 0) (T := ∅)
      ((Nat.zero_add _).trans ((sV_credit t c).trans (expect_send m t c).symm))) $$ [Hc HO Hat]
  · isplitr; · iapply (inv_send m K t c); iexact HR
    isplitl [Hc]; · rw [sV_credit t c]; iexact Hc
    isplitl [HO]; · iexact HO
    isplitr; · iapply (mayWait_obl st.went c (.dma (ss t)) 0 (lv_send t c) (fun u _ => by have := lvT_ge u; omega)); iexact HL
    iexact Hat
  iintro ⟨HO, Hat, -, Hpay⟩
  ihave Hp := (Entails.of_eq (rest_send m t c)) $$ Hpay
  imod (Rounds.cell_close ER (sched m) (Set.mem_univ (K (c, some (.inl t)))) (fun h => h) (R := 0 + 1) (duties_later m (sendCell t c))) $$ [Hat] with Hz
  · isplitr; · iapply (inv_send m K t c); iexact HR
    iexact Hat
  iapply Hk
  isplitr; · iexact HR
  isplitr; · iexact HL
  isplitl [HO]; · iexists _; iexact HO
  isplitl [HS Hz Hp]
  · iapply HS
    iapply (Entails.of_eq (sendS_back m (next st (.sent t)) c t (List.mem_cons_self)).symm)
    isplitl [Hz] <;> iassumption
  isplitl [HV]; · iexact HV
  isplitl [HC]; · iexact HC
  iexact HB

/-! ## Awaiting a landing -/

/-- A landing not yet awaited: its credit. -/
theorem recvS_new (st : St) (c : Dev nD) (t : Tr) (h : t ∉ st.got) :
    recvS m st c t = iprop(atPos ER (recvCell t c) 0 ∅ 0 ∗ cred (tallyAt (recvCell t c) () (cr t))) := by
  unfold recvS; rw [if_neg h]

/-- One awaited: the rows not passed on. -/
theorem recvS_got (st : St) (c : Dev nD) (t : Tr) (h : t ∈ st.got) :
    recvS m st c t = iprop(semVal (recvCell t c) 0 ∗ restPts m t c) := by
  unfold recvS; rw [if_pos h]

/-- The pieces of a landing make the transfers passing them on ready. -/
theorem sendS_ready (st : St) (c : Dev nD) (t : Tr) (h : t ∉ st.got) (hk : ∀ k, par k = some t → k ∉ st.went ∧ k ∉ st.back) :
    iprop((bigSep Finset.univ fun u => sendS m st c u) ∗ kidPts m t c) ⊢ bigSep Finset.univ fun u => sendS m (next st (.recv t)) c u := by
  unfold kidPts
  rw [← bigSep_sep']
  refine bigSep_mono fun u _ => ?_
  show _ ⊢ sendS m { st with got := t :: st.got } c u
  by_cases hu : par u = some t
  · obtain ⟨h1, h2⟩ := hk u hu
    rw [if_pos hu, sendS_new m { st with got := t :: st.got } c u h1 h2 (by simp [ready, hu])]
    unfold sendS
    rw [if_neg h2, if_neg h1]
    iintro ⟨⟨H1, H2, H3, H4, -⟩, H5⟩
    isplitl [H1]; · iexact H1
    isplitl [H2]; · iexact H2
    isplitl [H3]; · iexact H3
    isplitl [H4] <;> iassumption
  · rw [if_neg hu]
    have hr : ready { st with got := t :: st.got } u = ready st u := by
      unfold ready
      cases hp : par u with
      | none => rfl
      | some v =>
        have hv : v ≠ t := fun e => hu (by rw [hp, e])
        simp [hv]
    unfold sendS
    rw [hr]
    iintro ⟨H, -⟩
    iexact H

/-- Awaiting a landing. -/
theorem step_recv (K : Cell → ℕ) (st : St) (c : Dev nD) (t : Tr) (h : ok st (.recv t) = true) : Steps m K st c (.recv t) := by
  intro p Q
  simp only [ok, Bool.and_eq_true, decide_eq_true_eq] at h
  obtain ⟨⟨hg, hl⟩, hk⟩ := h
  unfold Inv text
  simp only [Prog.lift, Prog.bind_op, Prog.bind_ret]
  iintro ⟨#HR, #HL, ⟨%Wt, HO⟩, HS, HV, HC, HB⟩ Hk
  ihave HV' := (bigSep_univ_update (Φ := fun t => recvS m st c t) (Ψ := fun u => recvS m (next st (.recv t)) c u) t (fun u hu => by
    show recvS m { st with got := t :: st.got } c u = recvS m st c u
    unfold recvS
    simp only [List.mem_cons, hu, false_or])) $$ HV
  icases HV' with ⟨Ht, HV⟩
  ihave Ht' := (Entails.of_eq (recvS_new m st c t hg)) $$ Ht
  icases Ht' with ⟨Hat, Hc⟩
  iapply (Rounds.wp_wait_rest_token 𝒱₀ ER (sched m) (c : Thread nD τ) none (κ := K (c, some (.inr t)))
      (wpE_waitDma2_eq 𝒱₀ (c : Thread nD τ) none Set.univ) (Set.mem_univ _) () (O := obl st.went c) (W := Wt) (R := 0) (m := 0) (T := ∅)
      ((Nat.zero_add _).trans ((rV_credit t c).trans (expect_recv m t c).symm))) $$ [Hc HO Hat]
  · isplitr; · iapply (inv_recv m K t c); iexact HR
    isplitl [Hc]; · rw [rV_credit t c]; iexact Hc
    isplitl [HO]; · iexact HO
    isplitr; · iapply (mayWait_obl st.went c (.dma (rs t)) (lvT t) (lv_recv t c) hl); iexact HL
    iexact Hat
  iintro ⟨HO, Hat, -, Hpay⟩
  ihave Hp := ((Entails.of_eq (rest_recv m t c)).trans (landed_cut m t c).1) $$ Hpay
  icases Hp with ⟨Hkids, Hrest⟩
  imod (Rounds.cell_close ER (sched m) (Set.mem_univ (K (c, some (.inr t)))) (fun h => h) (R := 0 + 1) (duties_later m (recvCell t c))) $$ [Hat] with Hz
  · isplitr; · iapply (inv_recv m K t c); iexact HR
    iexact Hat
  iapply Hk
  isplitr; · iexact HR
  isplitr; · iexact HL
  isplitl [HO]; · iexists _; iexact HO
  isplitl [HS Hkids]
  · iapply (sendS_ready m st c t hg hk)
    isplitl [HS] <;> iassumption
  isplitl [HV Hz Hrest]
  · iapply HV
    iapply (Entails.of_eq (recvS_got m (next st (.recv t)) c t (List.mem_cons_self)).symm)
    isplitl [Hz] <;> iassumption
  isplitl [HC]; · iexact HC
  iexact HB

/-! ## Moving a local chunk -/

/-- A chunk copied through its buffer half holds the final contents. -/
theorem moved_at (i : Fin 8) (c : Dev nD) (fb : Buf (Elt F) ((bV (half i)).view.loc (c : Thread nD τ)))
    (fd : Buf (Elt F) ((lV i c).view.loc (c : Thread nD τ))) (x : S32768x1024.Idx) (hx : x ∈ ((lV i c).view.set : Finset S32768x1024.Idx)) :
    (lV i c).view.write (Elt F) fd ((bV (half i)).view.read (Elt F)
      ((bV (half i)).view.write (Elt F) fb ((aV i).view.read (Elt F) (argAt m c)) Finset.univ)) Finset.univ x = W m c x := by
  have hr : x ∈ rows 32768 (16384 * (c.val / 4) + 2048 * i.val) 2048 := by rw [← lV_set]; exact hx
  have hown : (x 0).val / 16384 = c.val / 4 := by
    have h := mem_rows.mp hr
    have := i.isLt
    omega
  rw [W_own m c x hown]
  obtain ⟨j, -, rfl⟩ := Finset.mem_map.mp hx
  rw [View.write_emb_of_mem _ _ (Finset.mem_univ j), View.read_write_univ]
  refine congrArg (argAt m c) (src_row (o' := 0) (n := 2048) rfl (by rw [lOff_eq]; rfl) ?_ (lOff_inb i) (k0_off6_inb c i) j)
  rw [lOff_eq]
  show 2048 * i.val = (16384 * (c.val / 4) + 2048 * i.val) % 16384
  have := i.isLt
  omega

/-- When a copy out has landed, the chunk is in place and the buffer half is free. -/
theorem moved_lands (i : Fin 8) (c : Dev nD) (fb : Buf (Elt F) ((bV (half i)).view.loc (c : Thread nD τ)))
    (fd : Buf (Elt F) ((lV i c).view.loc (c : Thread nD τ))) :
    iprop(((lV i c).view.loc (c : Thread nD τ) ↦[(lV i c).view.set]{fullShare} ((lV i c).view.write (Elt F) fd ((bV (half i)).view.read (Elt F)
      ((bV (half i)).view.write (Elt F) fb ((aV i).view.read (Elt F) (argAt m c)) Finset.univ)) Finset.univ))
      ∗ ((bV (half i)).view.loc (c : Thread nD τ) ↦[(bV (half i)).view.set]{fullShare}
        ((bV (half i)).view.write (Elt F) fb ((aV i).view.read (Elt F) (argAt m c)) Finset.univ)))
      ⊢ (iprop(lDone m c i ∗ bPts c (half i)) : sProp 𝕄) := by
  unfold lDone bPts
  rw [pointsTo_congr (moved_at m i c fb fd)]
  iintro ⟨H1, H2⟩
  isplitl [H1]; · iexact H1
  iexists _; iexact H2

/-- A chunk not yet moved, -/
theorem chunkS_new (st : St) (c : Dev nD) (i : Fin 8) (h1 : i ∉ st.moved) (h2 : i ∉ st.home) :
    chunkS m st c i = iprop(aPts m c i ∗ lHole c i) := by unfold chunkS; rw [if_neg h2, if_neg h1]
/-- one on its way out of the buffer, -/
theorem chunkS_moved (st : St) (c : Dev nD) (i : Fin 8) (h1 : i ∈ st.moved) (h2 : i ∉ st.home) :
    chunkS m st c i = iprop(aPts m c i ∗ Flight EC (c : Thread nD τ) (.dma (ws (half i))) () crL iprop(lDone m c i ∗ bPts c (half i))) := by
  unfold chunkS; rw [if_neg h2, if_pos h1]
/-- and one in place. -/
theorem chunkS_home (st : St) (c : Dev nD) (i : Fin 8) (h2 : i ∈ st.home) : chunkS m st c i = iprop(aPts m c i ∗ lDone m c i) := by
  unfold chunkS; rw [if_pos h2]

/-- A buffer half that is free, -/
theorem slotS_idle (st : St) (c : Dev nD) (s : Fin 2) (h : busy st s = false) :
    (slotS st c s : sProp 𝕄) = iprop(semVal ((c : Thread nD τ), .dma (ls s)) 0 ∗ bPts c s ∗ semVal ((c : Thread nD τ), .dma (ws s)) 0) := by
  unfold slotS; rw [if_neg (by rw [h]; exact Bool.false_ne_true)]
/-- and one being copied out. -/
theorem slotS_busy (st : St) (c : Dev nD) (s : Fin 2) (h : busy st s = true) :
    (slotS st c s : sProp 𝕄) = iprop(semVal ((c : Thread nD τ), .dma (ls s)) 0 ∗ emp) := by
  unfold slotS; rw [if_pos h]

/-- A copy out has a credit, -/
theorem crL_pos : 0 < crL := by unfold crL; decide +kernel

/-- the same for every chunk. -/
theorem crL_eq (i : Fin 8) (c : Dev nD) : (lV i c).view.dmaCredit = crL := rfl

/-- Moving a chunk into the buffer and starting its copy out. -/
theorem step_move (K : Cell → ℕ) (st : St) (c : Dev nD) (i : Fin 8) (h : ok st (.move i) = true) : Steps m K st c (.move i) := by
  intro p Q
  simp only [ok, Bool.and_eq_true, decide_eq_true_eq, Bool.not_eq_true'] at h
  obtain ⟨⟨hm, hh⟩, hb⟩ := h
  unfold Inv text
  simp only [Prog.lift, Prog.bind_op, Prog.bind_ret]
  iintro ⟨#HR, #HL, ⟨%Wt, HO⟩, HS, HV, HC, HB⟩ Hk
  ihave HC' := (bigSep_univ_update (Φ := fun j => chunkS m st c j) (Ψ := fun j => chunkS m (next st (.move i)) c j) i (fun j hj => by
    show chunkS m { st with moved := i :: st.moved } c j = chunkS m st c j
    unfold chunkS
    simp only [List.mem_cons, hj, false_or])) $$ HC
  icases HC' with ⟨Ht, HC⟩
  ihave Ht' := (Entails.of_eq (chunkS_new m st c i hm hh)) $$ Ht
  unfold lHole
  icases Ht' with ⟨Ha, ⟨%fd, Hl⟩⟩
  ihave HB' := (bigSep_univ_update (Φ := fun s => (slotS st c s : sProp 𝕄)) (Ψ := fun s => slotS (next st (.move i)) c s) (half i) (fun s hs => by
    show slotS { st with moved := i :: st.moved } c s = slotS st c s
    have : busy { st with moved := i :: st.moved } s = busy st s := by
      unfold busy
      refine decide_eq_decide.mpr ⟨?_, ?_⟩
      · rintro ⟨j, h1, h2, h3⟩
        rcases List.mem_cons.mp h1 with rfl | h1
        · exact absurd h3.symm hs
        · exact ⟨j, h1, h2, h3⟩
      · rintro ⟨j, h1, h2, h3⟩
        exact ⟨j, List.mem_cons_of_mem _ h1, h2, h3⟩
    unfold slotS
    rw [this])) $$ HB
  icases HB' with ⟨Hs, HB⟩
  ihave Hs' := (Entails.of_eq (slotS_idle st c (half i) hb)) $$ Hs
  unfold bPts
  icases Hs' with ⟨Hls, ⟨%fb, Hb⟩, Hws⟩
  unfold aPts
  iapply (Transfers.wp_dmaLocal EC 𝒱₀ (c : Thread nD τ) none () ((bV (half i)).view.amount (.dma (ls (half i)))) rfl crL_pos (Finset.Subset.refl _)) $$ [Ha Hb Hls]
  · isplitl [Ha]; · iexact Ha
    isplitl [Hb] <;> iassumption
  iintro Hf
  iapply (Transfers.wp_waitLocalO EC 𝒱₀ (c : Thread nD τ) none () rfl (O := obl st.went c) (W := Wt)) $$ [Hf HO]
  · isplitl [Hf]; · iexact Hf
    isplitl [HO]; · iexact HO
    iapply (mayWait_obl st.went c (.dma (ls (half i))) 0 (lv_ls (half i) c) (fun u _ => by have := lvT_ge u; omega)); iexact HL
  iintro ⟨⟨Hb, Ha⟩, Hls, HO⟩
  iapply (Transfers.wp_dmaLocal EC 𝒱₀ (c : Thread nD τ) none () crL rfl crL_pos (Finset.Subset.refl _)) $$ [Hb Hl Hws]
  · isplitl [Hb]; · iexact Hb
    isplitl [Hl] <;> iassumption
  iintro Hf
  iapply Hk
  isplitr; · iexact HR
  isplitr; · iexact HL
  isplitl [HO]; · iexists _; iexact HO
  isplitl [HS]; · iexact HS
  isplitl [HV]; · iexact HV
  isplitl [HC Ha Hf]
  · iapply HC
    iapply (Entails.of_eq (chunkS_moved m (next st (.move i)) c i (List.mem_cons_self) hh).symm)
    unfold aPts
    isplitl [Ha]; · iexact Ha
    iapply (Transfers.Flight_mono EC (c : Thread nD τ) (moved_lands m i c fb fd))
    iexact Hf
  · iapply HB
    iapply (Entails.of_eq (slotS_busy (next st (.move i)) c (half i) (by
      unfold busy
      exact decide_eq_true ⟨i, List.mem_cons_self, hh, rfl⟩)).symm)
    isplitl [Hls]; · iexact Hls
    iempintro

/-- Awaiting a copy out. -/
theorem step_stored (K : Cell → ℕ) (st : St) (c : Dev nD) (i : Fin 8) (h : ok st (.stored i) = true) : Steps m K st c (.stored i) := by
  intro p Q
  simp only [ok, Bool.and_eq_true, decide_eq_true_eq] at h
  obtain ⟨⟨hm, hh⟩, hone⟩ := h
  unfold Inv text
  simp only [Prog.lift, Prog.bind_op, Prog.bind_ret]
  iintro ⟨#HR, #HL, ⟨%Wt, HO⟩, HS, HV, HC, HB⟩ Hk
  ihave HC' := (bigSep_univ_update (Φ := fun j => chunkS m st c j) (Ψ := fun j => chunkS m (next st (.stored i)) c j) i (fun j hj => by
    show chunkS m { st with home := i :: st.home } c j = chunkS m st c j
    unfold chunkS
    simp only [List.mem_cons, hj, false_or])) $$ HC
  icases HC' with ⟨Ht, HC⟩
  ihave Ht' := (Entails.of_eq (chunkS_moved m st c i hm hh)) $$ Ht
  icases Ht' with ⟨Ha, Hf⟩
  ihave HB' := (bigSep_univ_update (Φ := fun s => (slotS st c s : sProp 𝕄)) (Ψ := fun s => slotS (next st (.stored i)) c s) (half i) (fun s hs => by
    show slotS { st with home := i :: st.home } c s = slotS st c s
    have : busy { st with home := i :: st.home } s = busy st s := by
      unfold busy
      refine decide_eq_decide.mpr ⟨?_, ?_⟩
      · rintro ⟨j, h1, h2, h3⟩
        exact ⟨j, h1, fun h4 => h2 (List.mem_cons_of_mem _ h4), h3⟩
      · rintro ⟨j, h1, h2, h3⟩
        refine ⟨j, h1, fun h4 => ?_, h3⟩
        rcases List.mem_cons.mp h4 with rfl | h4
        · exact hs h3.symm
        · exact h2 h4
    unfold slotS
    rw [this])) $$ HB
  icases HB' with ⟨Hs, HB⟩
  ihave Hs' := (Entails.of_eq (slotS_busy st c (half i) (by unfold busy; exact decide_eq_true ⟨i, hm, hh, rfl⟩))) $$ Hs
  icases Hs' with ⟨Hls, -⟩
  iapply (Transfers.wp_waitLocalO EC 𝒱₀ (c : Thread nD τ) none () (crL_eq i c) (O := obl st.went c) (W := Wt)) $$ [Hf HO]
  · isplitl [Hf]; · iexact Hf
    isplitl [HO]; · iexact HO
    iapply (mayWait_obl st.went c (.dma (ws (half i))) 0 (lv_ws (half i) c) (fun u _ => by have := lvT_ge u; omega)); iexact HL
  iintro ⟨⟨Hl, Hb⟩, Hws, HO⟩
  iapply Hk
  isplitr; · iexact HR
  isplitr; · iexact HL
  isplitl [HO]; · iexists _; iexact HO
  isplitl [HS]; · iexact HS
  isplitl [HV]; · iexact HV
  isplitl [HC Ha Hl]
  · iapply HC
    iapply (Entails.of_eq (chunkS_home m (next st (.stored i)) c i (List.mem_cons_self)).symm)
    isplitl [Ha] <;> iassumption
  · iapply HB
    iapply (Entails.of_eq (slotS_idle (next st (.stored i)) c (half i) (by
      unfold busy
      refine decide_eq_false ?_
      rintro ⟨j, h1, h2, h3⟩
      have h2' : j ∉ st.home := fun h => h2 (List.mem_cons_of_mem _ h)
      exact h2 (hone j h1 h2' h3 ▸ List.mem_cons_self))).symm)
    isplitl [Hls]; · iexact Hls
    isplitl [Hb] <;> iassumption

/-! ## A list of steps -/

/-- Every step that can be taken runs to the state after it. -/
theorem step_ok (K : Cell → ℕ) (st : St) (c : Dev nD) (o : Op) (h : ok st o = true) : Steps m K st c o := by
  cases o with
  | sig k => exact absurd h Bool.false_ne_true
  | bar => exact absurd h Bool.false_ne_true
  | send t => exact step_send m K st c t h
  | recv t => exact step_recv m K st c t h
  | sent t => exact step_sent m K st c t h
  | move i => exact step_move m K st c i h
  | stored i => exact step_stored m K st c i h

/-- Steps that can be taken in order run from `Inv st` to `Inv` of the state after them all. -/
theorem run_steps (K : Cell → ℕ) (c : Dev nD) (Q : PUnit → sProp 𝕄) : ∀ (os : List Op) (st : St), okAll st os = true →
    Inv m K st c ⊢ iprop((Inv m K (nextAll st os) c -∗ Q ⟨⟩) -∗ runs c (texts c os) Q)
  | [], st, _ => by
    unfold texts nextAll
    iintro H Hk
    rw [show (runs c (Prog.ret ⟨⟩) Q : sProp 𝕄) = _ from wp_ret ..]
    imodintro
    iapply Hk; iexact H
  | o :: os, st, h => by
    unfold okAll at h
    rw [Bool.and_eq_true] at h
    unfold texts nextAll
    iintro H Hk
    iapply (step_ok m K st c o h.1 (texts c os) Q) $$ H
    iintro H
    iapply (run_steps K c Q os (next st o) h.2) $$ H
    iexact Hk

end Cert.Gather

end
-- ==== Proof.Ends.lean ====
/-
The two ends of a device's run: the launch's whole buffers cut into the pieces the steps work on, and the pieces left after the
last step put together again.
-/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

/-! ## Regrouping a family -/

/-- Of a family kept at one index only, what is kept. -/
theorem bigSep_only {I : Type} [Fintype I] [DecidableEq I] (a : I) (X : sProp 𝕄) :
    (bigSep Finset.univ fun k : I => if a = k then X else iprop(emp)) = X := by
  rw [show (bigSep Finset.univ fun k : I => if a = k then X else iprop(emp)) = bigSep (Finset.univ.filter fun k => a = k) (fun _ => X) from
    (bigSep_filter _ _ _).symm]
  rw [show (Finset.univ.filter fun k : I => a = k) = {a} from by ext k; simp [eq_comm]]
  exact BI.bigSep_singleton

/-- A family over transfers, taken axis by axis. -/
theorem by_axis (Φ : Tr → sProp 𝕄) :
    bigSep Finset.univ Φ = bigSep Finset.univ fun k : Fin 3 => bigSep Finset.univ fun t => if dir t = k then Φ t else iprop(emp) := by
  rw [BI.bigSep_univ_comm]
  exact bigSep_congr fun t _ => (bigSep_only (dir t) (Φ t)).symm

/-- What all transfers hold of the rows they read covers what was cut from every landing. -/
theorem kids_back (c : Dev nD) : (bigSep Finset.univ fun t => srcPts m t c) ⊢ (bigSep Finset.univ fun t => kidPts m t c : sProp 𝕄) := by
  unfold kidPts
  rw [BI.bigSep_univ_comm]
  refine bigSep_mono fun k _ => ?_
  cases hp : par k with
  | none =>
    rw [bigSep_congr (s := Finset.univ) (Ψ := fun _ : Tr => (iprop(emp) : sProp 𝕄)) (fun t _ => if_neg (by simp)), show (bigSep Finset.univ fun _ : Tr => (iprop(emp) : sProp 𝕄)) = iprop(emp) from bigSep_emp_const _]
    show (_ ⊢ (_ : sProp 𝕄))
    iintro -
    iempintro
  | some u =>
    refine Entails.of_eq ((bigSep_only u (srcPts m k c)).symm.trans (bigSep_congr fun t _ => ?_))
    simp only [Option.some.injEq]

/-! ## The result -/

/-- The rows of the result device `c` receives `t` in, at any contents. -/
def own (t : Tr) (c : Dev nD) : sProp 𝕄 :=
  iprop(∃ f : Buf (Elt F) (oL c), oL c ↦[rows 32768 (ro t c) (len t)]{fullShare} f)

/-- A local chunk's place in the result is its tile. -/
theorem lV_pts (c : Dev nD) (i : Fin 8) (f : Buf (Elt F) (oL c)) :
    ((lV i c).view.loc (c : Thread nD τ) ↦[(lV i c).view.set]{fullShare} f : sProp 𝕄) = (oL c ↦[tileSet c (.inr i)]{fullShare} f : sProp 𝕄) := by
  rw [show (lV i c).view.set = tileSet c (.inr i) from lV_set i c]

/-- The whole result is its tiles. -/
theorem out_tiles (c : Dev nD) (f : Buf (Elt F) (oL c)) :
    (oL c ↦{fullShare} f : sProp 𝕄) = iprop((bigSep Finset.univ fun t => oL c ↦[rows 32768 (ro t c) (len t)]{fullShare} f)
      ∗ bigSep Finset.univ fun i => oL c ↦[tileSet c (.inr i)]{fullShare} f) := by
  rw [← tileSet_cover c, pointsTo_biUnion _ _ fun p _ q _ h => tileSet_disjoint c p q h, BI.bigSep_univ_sum]
  rfl

/-- The result at launch, cut into the regions of the incoming transfers and the places of the local chunks. -/
theorem out_cut (c : Dev nD) (f : Buf (Elt F) (oL c)) :
    (oL c ↦{fullShare} f : sProp 𝕄) ⊢ iprop((bigSep Finset.univ fun t => own t c) ∗ bigSep Finset.univ fun i => lHole c i) := by
  rw [out_tiles]
  refine BI.sep_mono (bigSep_mono fun t _ => ?_) (bigSep_mono fun i _ => ?_)
  · unfold own; show (_ ⊢ (_ : sProp 𝕄)); iintro H; iexists f; iexact H
  · unfold lHole; show (_ ⊢ (_ : sProp 𝕄)); iintro H; iexists f; iapply (Entails.of_eq (lV_pts c i f).symm); iexact H

/-- Every region landed and every local chunk in place make up the whole result. -/
theorem out_join (c : Dev nD) :
    iprop((bigSep Finset.univ fun t => landed m t c) ∗ bigSep Finset.univ fun i => lDone m c i) ⊢ (oL c ↦{fullShare} W m c : sProp 𝕄) := by
  rw [out_tiles]
  refine BI.sep_mono_r (bigSep_mono fun i _ => ?_)
  unfold lDone
  exact Entails.of_eq (lV_pts c i (W m c))

/-- The rows a device's neighbour over axis `k` will write, handed to it. -/
theorem own_holes (c : Dev nD) : (bigSep Finset.univ fun t => own t c) ⊢ (bigSep Finset.univ fun k : Fin 3 => holes k (flip k c) : sProp 𝕄) := by
  rw [by_axis]
  refine bigSep_mono fun k _ => ?_
  unfold holes
  refine bigSep_mono fun t _ => ?_
  by_cases h : dir t = k
  · subst h
    rw [if_pos rfl, if_pos rfl]
    unfold own hole
    rw [show nbr t (flip (dir t) c) = c from flip_flip (dir t) c, show lo t (flip (dir t) c) = ro t c from dOff_nbr t c]
    exact Idealize.SL.BI.Entails.refl _
  · rw [if_neg h, if_neg h]
    exact Idealize.SL.BI.Entails.refl _

/-! ## The argument -/

/-- The left half of the argument's share, cut into the eight local chunks. -/
theorem arg_chunks (c : Dev nD) : (aL c ↦{fullShare.left} argAt m c : sProp 𝕄) = bigSep Finset.univ fun i => aPts m c i := by
  rw [← chunks_cover, pointsTo_biUnion _ _ fun i _ j _ h => chunks_disjoint i j h]
  refine bigSep_congr fun i _ => ?_
  unfold aPts
  rw [show (aV i).view.set = rows 16384 (2048 * i.val) 2048 from aV_set i]

/-- From the right half of the share, the rows that the x transfers read. -/
theorem arg_xs (c : Dev nD) :
    (aL c ↦{fullShare.right} argAt m c : sProp 𝕄) ⊢ bigSep Finset.univ fun t => if ready {} t then srcPts m t c else iprop(emp) := by
  refine (pointsTo_split_subset (Finset.subset_univ (Finset.univ.biUnion fun t => xRows t c))).1.trans ?_
  rw [pointsTo_biUnion _ _ fun t _ u _ h => xRows_disjoint c t u h]
  refine sep_elim_left.trans (bigSep_mono fun t _ => ?_)
  have hx : ready {} t = isX t := by cases t <;> rfl
  rw [hx]
  by_cases h : isX t = true
  · rw [if_pos h, srcPts_arg m t c h]
    unfold xRows
    rw [if_pos h]
    exact Idealize.SL.BI.Entails.refl _
  · rw [if_neg h]
    show (_ ⊢ (_ : sProp 𝕄))
    iintro -
    iempintro

/-! ## The buffer -/

/-- The buffer of a device. -/
abbrev bL (c : Dev nD) : Loc nD τ sig := (c : Thread nD τ).loc cc0_scratch0

/-- The half of the buffer slot `s` names. -/
def slab (s : Fin 2) : Finset S2x2048x1024.Idx := Finset.univ.filter fun i => (i 0).val = s.val

/-- The view of a buffer half covers that half. -/
theorem bV_set (s : Fin 2) : ((bV s).view.set : Finset S2x2048x1024.Idx) = slab s := by
  refine (View.set_reshape _ _).trans ((View.set_slice_whole _ _).trans ?_)
  ext i
  rw [Rect.mem_set_unit, slab, Finset.mem_filter]
  constructor
  · intro h
    refine ⟨Finset.mem_univ _, ?_⟩
    have h0 : s.val ≤ (i 0).val ∧ (i 0).val < s.val + 1 := h 0
    omega
  · rintro ⟨-, h⟩ a
    fin_cases a
    · show s.val ≤ (i 0).val ∧ (i 0).val < s.val + 1
      rw [h]; omega
    · have := (i 1).isLt
      exact ⟨Nat.zero_le _, (Nat.zero_add 2048).symm ▸ this⟩
    · have := (i 2).isLt
      exact ⟨Nat.zero_le _, (Nat.zero_add 1024).symm ▸ this⟩

/-- The two halves of the buffer have nothing in common, -/
theorem halves_disjoint (s u : Fin 2) (h : s ≠ u) :
    Disjoint (slab s) (slab u) := by
  rw [Finset.disjoint_left]
  intro i h1 h2
  exact h (Fin.ext ((Finset.mem_filter.mp h1).2.symm.trans (Finset.mem_filter.mp h2).2))

/-- and are all of it. -/
theorem halves_cover : (Finset.univ : Finset (Fin 2)).biUnion slab = Finset.univ :=
  Finset.eq_univ_of_forall fun i => Finset.mem_biUnion.mpr ⟨i 0, Finset.mem_univ _, Finset.mem_filter.mpr ⟨Finset.mem_univ _, rfl⟩⟩

/-- Holding a half through its view is holding that part of the buffer. -/
theorem bV_pts (c : Dev nD) (s : Fin 2) (f : Buf (Elt F) (bL c)) :
    ((bV s).view.loc (c : Thread nD τ) ↦[(bV s).view.set]{fullShare} f : sProp 𝕄)
      = (bL c ↦[slab s]{fullShare} f : sProp 𝕄) := by
  rw [show (bV s).view.set = _ from bV_set s]

/-- The buffer, cut into its halves, -/
theorem buf_cut (c : Dev nD) (f : Buf (Elt F) (bL c)) : (bL c ↦{fullShare} f : sProp 𝕄) ⊢ bigSep Finset.univ fun s => bPts c s := by
  rw [← halves_cover, pointsTo_biUnion _ _ fun s _ u _ h => halves_disjoint s u h]
  refine bigSep_mono fun s _ => ?_
  unfold bPts
  show (_ ⊢ (_ : sProp 𝕄))
  iintro H; iexists f; iapply (Entails.of_eq (bV_pts c s f).symm); iexact H

/-- and put together again. -/
theorem buf_join (c : Dev nD) : (bigSep Finset.univ fun s => bPts c s) ⊢ (iprop(∃ f : Buf (Elt F) (bL c), bL c ↦{fullShare} f) : sProp 𝕄) := by
  unfold bPts
  iintro H
  ihave H' := (BI.bigSep_exists_pi Finset.univ (fun (s : Fin 2) (f : Buf (Elt F) (bL c)) =>
    ((bV s).view.loc (c : Thread nD τ) ↦[(bV s).view.set]{fullShare} f : sProp 𝕄))) $$ H
  icases H' with ⟨%fs, H⟩
  ihave H2 := ((Entails.of_eq (bigSep_congr fun s _ => bV_pts c s (fs s))).trans
    (pointsTo_biUnion_join Finset.univ _ fs (fs 0) fun s _ u _ h => halves_disjoint s u h)) $$ H
  icases H2 with ⟨%g, -, H⟩
  iexists g
  rw [halves_cover]
  iexact H

/-! ## After the last step -/

/-- What a device is left with. -/
def finish (c : Dev nD) : sProp 𝕄 :=
  iprop((∃ Wt, owes (c : Thread nD τ) 0 Wt)
    ∗ (bigSep Finset.univ fun t => semVal (sendCell t c) 0) ∗ (bigSep Finset.univ fun t => semVal (recvCell t c) 0)
    ∗ (bigSep Finset.univ fun s => semVal ((c : Thread nD τ), .dma (ls s)) 0) ∗ (bigSep Finset.univ fun s => semVal ((c : Thread nD τ), .dma (ws s)) 0)
    ∗ (oL c ↦{fullShare} W m c) ∗ (aL c ↦{fullShare.left} argAt m c) ∗ (∃ f : Buf (Elt F) (bL c), bL c ↦{fullShare} f))

/-- Once every transfer has been sent and received and every chunk is in place, what a device holds is `finish`. -/
theorem inv_end (K : Cell → ℕ) (st : St) (c : Dev nD)
    (h : (∀ t, t ∈ st.back) ∧ (∀ t, t ∈ st.got) ∧ (∀ t, t ∈ st.went) ∧ (∀ i, i ∈ st.home)) : Inv m K st c ⊢ finish m c := by
  obtain ⟨hb, hg, hw, hh⟩ := h
  unfold Inv finish
  rw [obl_all st.went c hw]
  rw [bigSep_congr (s := Finset.univ) (fun t _ => sendS_back m st c t (hb t)), bigSep_congr (s := Finset.univ) (fun t _ => recvS_got m st c t (hg t)),
    bigSep_congr (s := Finset.univ) (fun i _ => chunkS_home m st c i (hh i)),
    bigSep_congr (s := Finset.univ) (fun s _ => slotS_idle st c s (by unfold busy; exact decide_eq_false fun ⟨i, _, h2, _⟩ => h2 (hh i))),
    bigSep_sep', bigSep_sep', bigSep_sep', bigSep_sep', bigSep_sep', ← arg_chunks]
  iintro ⟨-, -, HO, ⟨H1, Hs⟩, ⟨H2, Hr⟩, ⟨Ha, Hl⟩, H3, Hb, H4⟩
  isplitl [HO]; · iexact HO
  isplitl [H1]; · iexact H1
  isplitl [H2]; · iexact H2
  isplitl [H3]; · iexact H3
  isplitl [H4]; · iexact H4
  isplitl [Hs Hr Hl]
  · iapply (out_join m c)
    isplitl [Hs Hr]
    · ihave Hk := (kids_back m c) $$ Hs
      iapply ((Entails.of_eq (bigSep_sep' Finset.univ (fun t => kidPts m t c) (fun t => restPts m t c)).symm).trans
        (bigSep_mono fun t _ => (landed_cut m t c).2))
      isplitl [Hk] <;> iassumption
    · iexact Hl
  isplitl [Ha]; · iexact Ha
  iapply (buf_join c); iexact Hb

end Cert.Gather

end
-- ==== Proof.Body.lean ====
/-
A device's whole body: the handshake with its three neighbours, then the steps; and the pipeline's obligation about it.
-/
module

public import proofs.«01_k».proof.Proof.Ends
public import Idealize.ShloMosaic.Lib.Pipeline.FrameBody

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The handshake -/

/-- A signal over axis `k` hands the neighbour the rows it will write. -/
theorem run_sig (K : Cell → ℕ) (k : Fin 3) (c : Dev nD) (os : List Op) (O : CellTallies nD τ sig Unit) (Wt : Waits sig Unit)
    (Q : PUnit → sProp 𝕄) :
    iprop(records m K ∗ owes (c : Thread nD τ) (O + tallyAt (barCell (flip k c)) () 1) Wt ∗ dutyTok ER (barCell (flip k c)) 0 k
        ∗ holes k (flip k c))
      ⊢ iprop((owes (c : Thread nD τ) O Wt -∗ runs c (texts c os) Q) -∗ runs c (texts c (.sig k :: os)) Q) := by
  rw [show texts (F := F) c (.sig k :: os) = (text c (.sig k)).bind fun _ => texts c os from rfl]
  unfold text
  simp only [semSignalWord, Prog.lift, Prog.bind_op, Prog.bind_ret, Prog.pure_eq_ret, sdev_eq]
  iintro ⟨#HR, HO, Ht, Hh⟩ Hk
  iapply (Rounds.wp_signal 𝒱₀ ER (sched m) (c : Thread nD τ) none (dst := (flip k c : Thread nD τ)) (κ := K (flip k c, none))
      (d := k) (by rw [duties_bar]; exact Finset.mem_univ _) ((amount_bar m (flip k c) k).trans (by decide)) () O rfl)
    $$ [HO Ht Hh]
  · isplitr; · iapply (inv_bar m K (flip k c)); iexact HR
    isplitl [HO]; · iexact HO
    isplitl [Ht]; · iexact Ht
    isplitl [Hh]; · rw [payload_bar]; iexact Hh
    iapply (reached_bar m K (flip k c)); iexact HR
  iexact Hk

/-- The wait for the three signals brings the rows this device writes on its neighbours; its barrier cell is then done with. -/
theorem run_bar (K : Cell → ℕ) (c : Dev nD) (os : List Op) (Wt : Waits sig Unit) (Q : PUnit → sProp 𝕄) :
    iprop(records m K ∗ levAts L lv ∗ cred (tallyAt (barCell c) () 3) ∗ owes (c : Thread nD τ) (obl [] c) Wt ∗ atPos ER (barCell c) 0 ∅ 0)
      ⊢ iprop((((∃ Wt', owes (c : Thread nD τ) (obl [] c) Wt') ∗ semVal (barCell c) 0 ∗ bigSep Finset.univ fun t => hole t c)
            -∗ runs c (texts c os) Q)
          -∗ runs c (texts c (.bar :: os)) Q) := by
  rw [show texts (F := F) c (.bar :: os) = (text c .bar).bind fun _ => texts c os from rfl]
  unfold text
  simp only [semWaitWord, Prog.lift, Prog.bind_op, Prog.bind_ret, Prog.pure_eq_ret]
  iintro ⟨#HR, #HL, Hc, HO, Hat⟩ Hk
  iapply (Rounds.wp_wait_rest_token 𝒱₀ ER (sched m) (c : Thread nD τ) none (κ := K (c, none))
      (wpE_semWait_eq 𝒱₀ (c : Thread nD τ) none Set.univ) (Set.mem_univ _) () (O := obl [] c) (W := Wt) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_obl [] c (.reg barS) 1 rfl fun u _ => lvT_ge u); iexact HL
    iexact Hat
  iintro ⟨HO, Hat, -, Hpay⟩
  ihave Hh := (Entails.of_eq ((rest_bar m c).trans (by_axis fun t => hole t c).symm)) $$ Hpay
  imod (Rounds.cell_close ER (sched m) (Set.mem_univ (K (c, none))) (fun h => h) (R := 0 + 1) (duties_later m (barCell c))) $$ [Hat] with Hz
  · isplitr; · iapply (inv_bar m K c); iexact HR
    iexact Hat
  iapply Hk
  isplitl [HO]; · iexists _; iexact HO
  isplitl [Hz] <;> iassumption

/-! ## Before and after -/

/-- What a device owes at the start: a unit of each neighbour's barrier, and the landings of all its transfers. -/
def O₀ (c : Dev nD) : CellTallies nD τ sig Unit :=
  ((obl [] c + tallyAt (barCell (flip 2 c)) () 1) + tallyAt (barCell (flip 1 c)) () 1) + tallyAt (barCell (flip 0 c)) () 1

/-- The counters of the local copies' semaphores, at zero. -/
def locals (c : Dev nD) : sProp 𝕄 :=
  iprop((bigSep Finset.univ fun s => semVal ((c : Thread nD τ), .dma (ls s)) 0) ∗ (bigSep Finset.univ fun s => semVal ((c : Thread nD τ), .dma (ws s)) 0))

/-- The tokens of the duties device `c` pays. -/
def pays (c : Dev nD) : sProp 𝕄 :=
  iprop((bigSep Finset.univ fun k => dutyTok ER (barCell (flip k c)) 0 k) ∗ (bigSep Finset.univ fun t => dutyTok ER (sendCell t c) 0 0)
    ∗ (bigSep Finset.univ fun t => dutyTok ER (recvCell t (nbr t c)) 0 0))

/-- Its positions in its own cells. -/
def places (c : Dev nD) : sProp 𝕄 :=
  iprop(atPos ER (barCell c) 0 ∅ 0 ∗ (bigSep Finset.univ fun t => atPos ER (sendCell t c) 0 ∅ 0) ∗ (bigSep Finset.univ fun t => atPos ER (recvCell t c) 0 ∅ 0))

/-- The ghost state it starts from. -/
def ghost (K : Cell → ℕ) (c : Dev nD) : sProp 𝕄 := iprop(records m K ∗ places c ∗ pays c ∗ locals c)

/-- The credit it starts with. -/
def credits (c : Dev nD) : sProp 𝕄 :=
  iprop(cred (tallyAt (barCell c) () 3) ∗ bigSep Finset.univ fun t => cred (tallyAt (recvCell t c) () (cr t)))

/-- What a device enters the kernel with: the ghost state, its credit, the levels, its argument, and its result at any contents. -/
def start (c : Dev nD) : sProp 𝕄 :=
  iprop((∃ K, ghost m K c) ∗ credits c ∗ levAts L lv ∗ (aL c ↦{fullShare} argAt m c) ∗ (∃ f : Buf (Elt F) (oL c), oL c ↦{fullShare} f))

/-- Before the body: that, and the buffer at any contents. -/
def Φ₀ (c : Dev nD) : sProp 𝕄 := iprop(start m c ∗ ∃ f : Buf (Elt F) (bL c), bL c ↦{fullShare} f)

/-- After the body: every own counter at zero, the result at its final contents, and the argument unchanged. -/
def Φ₁ (c : Dev nD) : sProp 𝕄 :=
  iprop(semVal (barCell c) 0
    ∗ (bigSep Finset.univ fun t => semVal (sendCell t c) 0) ∗ (bigSep Finset.univ fun t => semVal (recvCell t c) 0) ∗ locals c
    ∗ (oL c ↦{fullShare} W m c) ∗ (aL c ↦{fullShare.left} argAt m c) ∗ (∃ f : Buf (Elt F) (bL c), bL c ↦{fullShare} f))

/-- After the handshake a device holds what its steps start from. -/
theorem inv_start (K : Cell → ℕ) (c : Dev nD) :
    iprop(records m K ∗ levAts L lv ∗ (∃ Wt, owes (c : Thread nD τ) (obl [] c) Wt)
        ∗ (bigSep Finset.univ fun t => atPos ER (sendCell t c) 0 ∅ 0) ∗ (bigSep Finset.univ fun t => dutyTok ER (sendCell t c) 0 0)
        ∗ (bigSep Finset.univ fun t => dutyTok ER (recvCell t (nbr t c)) 0 0) ∗ (bigSep Finset.univ fun t => hole t c)
        ∗ (bigSep Finset.univ fun t => if ready {} t then srcPts m t c else iprop(emp))
        ∗ (bigSep Finset.univ fun t => atPos ER (recvCell t c) 0 ∅ 0) ∗ (bigSep Finset.univ fun t => cred (tallyAt (recvCell t c) () (cr t)))
        ∗ (bigSep Finset.univ fun i => aPts m c i) ∗ (bigSep Finset.univ fun i => lHole c i)
        ∗ (bigSep Finset.univ fun s => bPts c s) ∗ locals c)
      ⊢ Inv m K {} c := by
  unfold Inv locals
  rw [bigSep_congr (s := Finset.univ) (Φ := fun t => sendS m {} c t) (fun t _ => by unfold sendS; rw [if_neg (List.not_mem_nil), if_neg (List.not_mem_nil)]),
    bigSep_congr (s := Finset.univ) (Φ := fun t => recvS m {} c t) (fun t _ => recvS_new m {} c t (List.not_mem_nil)),
    bigSep_congr (s := Finset.univ) (Φ := fun i => chunkS m {} c i) (fun i _ => chunkS_new m {} c i (List.not_mem_nil) (List.not_mem_nil)),
    bigSep_congr (s := Finset.univ) (Φ := fun s => slotS {} c s) (fun s _ => slotS_idle {} c s (by
      unfold busy; exact decide_eq_false fun ⟨i, h1, _, _⟩ => List.not_mem_nil h1)),
    bigSep_sep', bigSep_sep', bigSep_sep', bigSep_sep', bigSep_sep', bigSep_sep', bigSep_sep', bigSep_sep']
  iintro ⟨HR, HL, HO, H1, H2, H3, H4, H5, H6, H7, H8, H9, H10, H11, H12⟩
  isplitl [HR]; · iexact HR
  isplitl [HL]; · iexact HL
  isplitl [HO]; · iexact HO
  isplitl [H1 H2 H3 H4 H5]
  · isplitl [H1]; · iexact H1
    isplitl [H2]; · iexact H2
    isplitl [H3]; · iexact H3
    isplitl [H4] <;> iassumption
  isplitl [H6 H7]
  · isplitl [H6] <;> iassumption
  isplitl [H8 H9]
  · isplitl [H8] <;> iassumption
  isplitl [H11]; · iexact H11
  isplitl [H10] <;> iassumption

/-! ## The body -/

/-- A product over the three axes, written out. -/
theorem three (Φ : Fin 3 → sProp 𝕄) : bigSep Finset.univ Φ = iprop(Φ 0 ∗ Φ 1 ∗ Φ 2) :=
  bigSep_univ_eq_bigSepL [0, 1, 2] (by decide) (by decide) Φ

/-- The whole body, from what a device enters with to its result complete and nothing owed. -/
theorem run_body (K : Cell → ℕ) (c : Dev nD) (Wt : Waits sig Unit) (Q : PUnit → sProp 𝕄) :
    iprop(ghost m K c ∗ credits c ∗ levAts L lv ∗ (aL c ↦{fullShare} argAt m c) ∗ (∃ f : Buf (Elt F) (oL c), oL c ↦{fullShare} f)
        ∗ (∃ f : Buf (Elt F) (bL c), bL c ↦{fullShare} f) ∗ owes (c : Thread nD τ) (O₀ c) Wt)
      ⊢ iprop(((Φ₁ m c ∗ ∃ Wt', owes (c : Thread nD τ) 0 Wt') -∗ Q ⟨⟩)
          -∗ runs c (texts c ([.sig 0, .sig 1, .sig 2, .bar] ++ steps)) Q) := by
  rw [show [Op.sig 0, .sig 1, .sig 2, .bar] ++ steps = .sig 0 :: .sig 1 :: .sig 2 :: .bar :: steps from rfl]
  unfold ghost places pays credits O₀
  rw [three]
  iintro ⟨⟨#HR, ⟨HatB, HatS, HatR⟩, ⟨⟨Ht0, Ht1, Ht2⟩, HtS, HtR⟩, Hlo⟩, ⟨HcB, HcR⟩, #HL, Ha, ⟨%fo, Hout⟩, ⟨%fb, Hbuf⟩, HO⟩ Hk
  ihave Hout' := (out_cut c fo) $$ Hout
  icases Hout' with ⟨Hown, Hlh⟩
  ihave Hh := ((own_holes (F := F) c).trans (Entails.of_eq (three _))) $$ Hown
  icases Hh with ⟨Hh0, Hh1, Hh2⟩
  iapply (run_sig m K 0 c _ _ Wt Q) $$ [HO Ht0 Hh0]
  · isplitr; · iexact HR
    isplitl [HO]; · iexact HO
    isplitl [Ht0] <;> iassumption
  iintro HO
  iapply (run_sig m K 1 c _ _ Wt Q) $$ [HO Ht1 Hh1]
  · isplitr; · iexact HR
    isplitl [HO]; · iexact HO
    isplitl [Ht1] <;> iassumption
  iintro HO
  iapply (run_sig m K 2 c _ _ Wt Q) $$ [HO Ht2 Hh2]
  · isplitr; · iexact HR
    isplitl [HO]; · iexact HO
    isplitl [Ht2] <;> iassumption
  iintro HO
  iapply (run_bar m K c steps Wt Q) $$ [HcB HO HatB]
  · isplitr; · iexact HR
    isplitr; · iexact HL
    isplitl [HcB]; · iexact HcB
    isplitl [HO] <;> iassumption
  iintro ⟨HO, HzB, Hholes⟩
  ihave Ha' := ((pointsTo_share (PosShare.mem_left_op_right fullShare)).1) $$ Ha
  icases Ha' with ⟨Hal, Har⟩
  ihave Hal' := (Entails.of_eq (arg_chunks m c)) $$ Hal
  ihave Har' := (arg_xs m c) $$ Har
  ihave Hbuf' := (buf_cut c fb) $$ Hbuf
  iapply (run_steps m K c Q steps {} steps_ok) $$ [HO HatS HtS HtR Hholes Har' HatR HcR Hal' Hlh Hbuf' Hlo]
  · iapply (inv_start m K c)
    isplitr; · iexact HR
    isplitr; · iexact HL
    isplitl [HO]; · iexact HO
    isplitl [HatS]; · iexact HatS
    isplitl [HtS]; · iexact HtS
    isplitl [HtR]; · iexact HtR
    isplitl [Hholes]; · iexact Hholes
    isplitl [Har']; · iexact Har'
    isplitl [HatR]; · iexact HatR
    isplitl [HcR]; · iexact HcR
    isplitl [Hal']; · iexact Hal'
    isplitl [Hlh]; · iexact Hlh
    isplitl [Hbuf']; · iexact Hbuf'
    iexact Hlo
  iintro HI
  iapply Hk
  ihave Hf := (inv_end m K (nextAll {} steps) c steps_end) $$ HI
  unfold finish Φ₁ locals
  icases Hf with ⟨HO, H1, H2, H3, H4, H5, H6, H7⟩
  isplitr [HO]
  · isplitl [HzB]; · iexact HzB
    isplitl [H1]; · iexact H1
    isplitl [H2]; · iexact H2
    isplitl [H3 H4]
    · isplitl [H3] <;> iassumption
    isplitl [H5]; · iexact H5
    isplitl [H6] <;> iassumption
  iexact HO

/-! ## The pipeline's obligation -/

/-- The kernel has no windows: its proof data are what it holds before and after its one point, and what it owes then. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body's run at the pipeline's one point. -/
theorem body_run (c : Dev nD) (R : sProp 𝕄) (hR : iprop(emp) ⊢ R) :
    iprop(Φ₀ m c ∗ (dats m 0 c).owesAt () t0_0.castSucc)
      ⊢ runs c (bodyAt0 (F := F) t0_0) (fun _ => iprop(Φ₁ m c ∗ (dats m 0 c).owesAt () t0_0.succ ∗ R)) := by
  rw [body_eq]
  simp only [wp_deviceId]
  unfold Φ₀ start Dat.owesAt Pipeline.owesWithin
  iintro ⟨⟨⟨⟨%K, Hg⟩, Hcr, HL, Ha, Ho⟩, Hb⟩, ⟨%Wt, -, HO⟩⟩
  iapply (run_body m K c Wt) $$ [Hg Hcr HL Ha Ho Hb HO]
  · isplitl [Hg]; · iexact Hg
    isplitl [Hcr]; · iexact Hcr
    isplitl [HL]; · iexact HL
    isplitl [Ha]; · iexact Ha
    isplitl [Ho]; · iexact Ho
    isplitl [Hb]; · iexact Hb
    iexact HO
  iintro ⟨H1, ⟨%Wt', HO⟩⟩
  isplitl [H1]; · iexact H1
  isplitl [HO]
  · iexists Wt'
    isplitr; · ipureintro; exact fun _ _ => Or.inl trivial
    iexact HO
  · iapply hR
    iempintro

/-- No windows: nothing is held of them. -/
theorem no_windows (Φ : Fin cfg0.W → sProp 𝕄) : iprop(emp) ⊢ bigSep Finset.univ Φ := by
  rw [show (Finset.univ : Finset (Fin cfg0.W)) = ∅ from rfl, bigSep_empty]
  exact BIBase.Entails.rfl

/-- The program the pipeline calls at its point. -/
theorem point_program : defs₀ (F := F) .tc cfg0.body (cfg0.bodyArgs t0_0 (cfg0.slots t0_0)) = bodyAt0 t0_0 := rfl

set_option maxRecDepth 8000 in
/-- The library's obligation about the body on device `c`. -/
theorem body_obligation (c : Dev nD) : BodyObligation (dats (F := F) m 0 c) (defs₀ (F := F)) 𝒱₀ () Set.univ := fun t => by
  rw [fin_N0 t]
  refine BIBase.Entails.trans (Q := iprop(Φ₀ m c ∗ (dats m 0 c).owesAt () t0_0.castSucc)) (sep_mono_right sep_elim_left) ?_
  rw [point_program]
  exact triple_restated (body_run m c _ (no_windows _)) rfl .rfl fun _ => .rfl

end Cert.Gather

end
-- ==== Proof.Launch.lean ====
/-
The launch: the cells' ghost state minted and dealt out, every cell's invariant allocated, what each device is credited, and the
run of the whole mesh.
-/
module

public import proofs.«01_k».proof.Proof.Body
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and cells -/

/-- The kernel's own semaphores: the ends of the transfers, and the local copies' four. -/
abbrev OwnSem : Type := End ⊕ (Fin 2 ⊕ Fin 2)
/-- Which semaphore each is. -/
def osem : OwnSem → SemLoc sig
  | .inl e => .dma (semOf e)
  | .inr (.inl s) => .dma (ls s)
  | .inr (.inr s) => .dma (ws s)

/-- The local copies' four semaphores differ. -/
theorem ls_ws : (∀ s u : Fin 2, ls s = ls u → s = u) ∧ (∀ s u : Fin 2, ws s = ws u → s = u) ∧ (∀ s u : Fin 2, ls s ≠ ws u) := by decide +kernel

/-- Equal as semaphores, equal as DMA semaphores. -/
theorem dma_inj {p q : DmaSem sig} (h : (SemLoc.dma p : SemLoc sig) = .dma q) : p = q := by injection h

/-- The own semaphores differ from one another, -/
theorem osem_injective : Function.Injective osem := by
  rintro (e | s | s) (e' | u | u) h <;> have h := dma_inj h
  · rw [semOf_injective h]
  · exact absurd h (semOf_ne_ls e u).1
  · exact absurd h (semOf_ne_ls e u).2
  · exact absurd h.symm (semOf_ne_ls e' s).1
  · rw [ls_ws.1 _ _ h]
  · exact absurd h (ls_ws.2.2 _ _)
  · exact absurd h.symm (semOf_ne_ls e' s).2
  · exact absurd h.symm (ls_ws.2.2 _ _)
  · rw [ls_ws.2.1 _ _ h]

/-- and belong to the kernel. -/
theorem osem_scoped : ∀ k, (osem k).isScoped .tc = true := by decide +kernel

/-- So they are the kernel's own semaphores as the launch wants them. -/
theorem ownSemFacts : Pipeline.OwnSemFacts cfg0.spec osem := ⟨osem_scoped, osem_injective, fun _ w => w.elim0⟩

/-- A device's cells lie at different semaphores, -/
theorem csem_injective : Function.Injective csem := by
  rintro (_ | e) (_ | e') h
  · rfl
  · cases h
  · cases h
  · rw [semOf_injective (dma_inj h)]

/-- so all cells differ. -/
theorem kcell_injective : Function.Injective (kcell : Cell → GSem nD τ sig) := by
  rintro ⟨c, e⟩ ⟨c', e'⟩ h
  have h1 : c = c' := congrArg (fun g : GSem nD τ sig => g.1.1) h
  have h2 : e = e' := csem_injective (congrArg Prod.snd h)
  rw [h1, h2]

/-- All the cells that have a schedule. -/
def allCells : Finset (GSem nD τ sig) := Finset.univ.map ⟨kcell, kcell_injective⟩

/-- A duty: one per axis at a barrier cell, one at each end of a transfer. -/
abbrev Duty : Type := Fin 3 ⊕ End
/-- The cell, round and number of a duty. -/
def tokOf : Dev nD × Duty → GSem nD τ sig × ℕ × Fin 3
  | (c, .inl k) => (barCell c, 0, k)
  | (c, .inr e) => (kcell (c, some e), 0, 0)

/-- Different duties have different tokens. -/
theorem tokOf_injective : Function.Injective tokOf := by
  rintro ⟨c, k | e⟩ ⟨c', k' | e'⟩ h
  · have h1 : c = c' := congrArg (fun x : GSem nD τ sig × ℕ × Fin 3 => x.1.1.1) h
    have h2 : k = k' := congrArg (fun x : GSem nD τ sig × ℕ × Fin 3 => x.2.2) h
    rw [h1, h2]
  · have h1 := congrArg (fun x : GSem nD τ sig × ℕ × Fin 3 => x.1.2) h
    cases h1
  · have h1 := congrArg (fun x : GSem nD τ sig × ℕ × Fin 3 => x.1.2) h
    cases h1
  · have h1 : (c, some e) = (c', some e') := kcell_injective (congrArg (fun x : GSem nD τ sig × ℕ × Fin 3 => x.1) h)
    cases h1
    rfl

/-- All duties' tokens. -/
def allToks : Finset (GSem nD τ sig × ℕ × Fin 3) := Finset.univ.map ⟨tokOf, tokOf_injective⟩

/-- A device's cells, by kind. -/
theorem by_cell (Φ : Option End → sProp 𝕄) :
    bigSep Finset.univ Φ = iprop(Φ none ∗ (bigSep Finset.univ fun t : Tr => Φ (some (.inl t))) ∗ bigSep Finset.univ fun t : Tr => Φ (some (.inr t))) := by
  rw [bigSep_univ_at Φ none]
  rw [show (Finset.univ.erase none : Finset (Option End)) = Finset.univ.map ⟨some, Option.some_injective _⟩ from by
    ext e; cases e <;> simp, bigSep_map]
  rw [BI.bigSep_univ_sum]
  rfl

/-! ## Minting -/

/-- The tokens of the duties at device `c`'s own cells. -/
def toks (c : Dev nD) : sProp 𝕄 :=
  iprop((bigSep Finset.univ fun k : Fin 3 => dutyTok ER (barCell c) 0 k) ∗ (bigSep Finset.univ fun t => dutyTok ER (sendCell t c) 0 0)
    ∗ bigSep Finset.univ fun t => dutyTok ER (recvCell t c) 0 0)

/-- What the launch deals a device. -/
def G (c : Dev nD) : sProp 𝕄 :=
  iprop((bigSep Finset.univ fun e : Option End => roundState ER (sched m) (kcell (c, e)) 0)
    ∗ (bigSep Finset.univ fun e : Option End => reached ER (kcell (c, e)) 0)
    ∗ (bigSep Finset.univ fun e : Option End => atPos ER (kcell (c, e)) 0 ∅ 0) ∗ toks c)

/-- The ghost element mints every device's share `G`. -/
theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun e : Option End => Φ (kcell (c, e)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [BI.bigSep_univ_sum, BI.bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-! ## Allocating the invariants -/

/-- The own counters at zero: the transfers' ends and the local copies'. -/
theorem ownSems0_eq (c : Dev nD) : (Pipeline.ownSems0 (Ix := Unit) (Name := ℕ) (U := UU) (Lvl := ℕ) (Val := Elt F) (τ := τ) osem c : sProp 𝕄)
    = iprop(((bigSep Finset.univ fun t => semVal (sendCell t c) 0) ∗ (bigSep Finset.univ fun t => semVal (recvCell t c) 0)) ∗ locals c) := by
  unfold Pipeline.ownSems0 locals
  rw [BI.bigSep_univ_sum, BI.bigSep_univ_sum, BI.bigSep_univ_sum]; rfl

/-- The barrier's counter is the only one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun e : Option End => iprop(∃ κ : ℕ, cellInv ER (sched m) κ (kcell (c, e))))
          ∗ (bigSep Finset.univ fun e : Option End => reached ER (kcell (c, e)) 0)
          ∗ (bigSep Finset.univ fun e : Option End => atPos ER (kcell (c, e)) 0 ∅ 0) ∗ toks c ∗ locals c) := by
  rw [ownSems0_eq, unscopedSems0_eq]
  unfold G
  iintro ⟨⟨⟨HS, HV⟩, Hlo⟩, HB, Hst, Hr, Hat, Htok⟩
  ihave Hv := (Entails.of_eq (by_cell (fun e => (semVal (kcell (c, e)) 0 : sProp 𝕄))).symm) $$ [HS HV HB]
  · isplitl [HB]; · iexact HB
    isplitl [HS]; · iexact HS
    iexact HV
  imod (show iprop((bigSep Finset.univ fun e : Option End => semVal (kcell (c, e)) 0) ∗ bigSep Finset.univ fun e : Option End => roundState ER (sched m) (kcell (c, e)) 0)
      ⊢ (|={Set.univ}=> bigSep Finset.univ fun e => iprop(∃ κ : ℕ, cellInv ER (sched m) κ (kcell (c, e))) : sProp 𝕄) from by
        rw [← bigSep_sep']
        exact (bigSep_mono fun e _ => (Rounds.body_intro ER (sched m) (kcell (c, e))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- Crossing an axis, as a bijection of the devices. -/
def across (k : Fin 3) : Dev nD ≃ Dev nD := ⟨flip k, flip k, flip_flip k, flip_flip k⟩

/-- The tokens dealt to the devices that pay the duties: a barrier's and a landing's across the axis. -/
theorem toks_around : (bigSep Finset.univ fun c : Dev nD => (toks c : sProp 𝕄)) ⊢ bigSep Finset.univ fun c : Dev nD => pays c := by
  unfold toks pays
  simp only [bigSep_sep']
  refine BIBase.Entails.trans (sep_mono_left (Entails.of_eq ?_)) (sep_mono_right (sep_mono_right (Entails.of_eq ?_)))
  · rw [BI.bigSep_univ_comm, BI.bigSep_univ_comm (fun (c : Dev nD) (k : Fin 3) => (dutyTok ER (barCell (flip k c)) 0 k : sProp 𝕄))]
    exact bigSep_congr fun k _ => bigSep_univ_equiv (across k) (fun c : Dev nD => (dutyTok ER (barCell c) 0 k : sProp 𝕄))
  · rw [BI.bigSep_univ_comm, BI.bigSep_univ_comm (fun (c : Dev nD) (t : Tr) => (dutyTok ER (recvCell t (nbr t c)) 0 0 : sProp 𝕄))]
    exact bigSep_congr fun t _ => bigSep_univ_equiv (across (dir t)) (fun c : Dev nD => (dutyTok ER (recvCell t c) 0 0 : sProp 𝕄))

/-- A device's positions, by kind of cell. -/
theorem places_eq (c : Dev nD) : (bigSep Finset.univ fun e : Option End => (atPos ER (kcell (c, e)) 0 ∅ 0 : sProp 𝕄)) = places c := by
  unfold places; rw [by_cell]; rfl

/-- What the allocation makes of it. -/
def G' (c : Dev nD) : sProp 𝕄 := iprop(∃ K, ghost m K c)

/-- The records and a device's own part make its ghost state. -/
theorem ghost_intro (K : Cell → ℕ) (c : Dev nD) : iprop(records m K ∗ places c ∗ pays c ∗ locals c) ⊢ G' m c := by
  unfold G' ghost
  iintro H
  iexists K
  iexact H

/-- The invariants' names chosen for the whole mesh, and everything dealt to the device that uses it. -/
theorem regroup :
    (bigSep Finset.univ fun c : Dev nD => iprop((bigSep Finset.univ fun e : Option End => iprop(∃ κ : ℕ, cellInv ER (sched m) κ (kcell (c, e))))
          ∗ (bigSep Finset.univ fun e : Option End => reached ER (kcell (c, e)) 0)
          ∗ (bigSep Finset.univ fun e : Option End => atPos ER (kcell (c, e)) 0 ∅ 0) ∗ toks c ∗ locals c) : sProp 𝕄)
      ⊢ bigSep Finset.univ (G' m) := by
  rw [bigSep_sep', bigSep_sep', bigSep_sep', bigSep_sep', ← bigSep_univ_prod (fun p : Cell => iprop(∃ κ : ℕ, cellInv ER (sched m) κ (kcell p))),
    ← bigSep_univ_prod (fun p : Cell => (reached ER (kcell p) 0 : sProp 𝕄))]
  iintro ⟨HI, #HR, Hat, Htok, Hlo⟩
  ihave HK := (BI.bigSep_exists_pi Finset.univ (fun (p : Cell) (κ : ℕ) => (cellInv ER (sched m) κ (kcell p) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · rw [bigSep_sep', bigSep_sep']
    isplitl [Hat]
    · iapply (Entails.of_eq (bigSep_congr fun c _ => places_eq c)); iexact Hat
    isplitl [Htk] <;> iassumption

/-- The step that the launch takes for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- Being a neighbour is mutual. -/
theorem flip_iff (k : Fin 3) (d c : Dev nD) : flip k d = c ↔ d = flip k c :=
  ⟨fun h => h ▸ (flip_flip k d).symm, fun h => h ▸ flip_flip k c⟩

/-- Barrier cells are equal on equal devices only. -/
theorem bar_eq {a b : Dev nD} : barCell a = barCell b ↔ a = b :=
  ⟨fun h => congrArg (fun g : GSem nD τ sig => g.1.1) h, fun h => h ▸ rfl⟩

/-- Receive cells are equal for equal transfers on equal devices only. -/
theorem recv_eq {t u : Tr} {a b : Dev nD} : recvCell t a = recvCell u b ↔ t = u ∧ a = b := by
  constructor
  · intro h
    have h' : (a, some (Sum.inr t : End)) = (b, some (Sum.inr u : End)) := kcell_injective (a₁ := (a, some (.inr t))) (a₂ := (b, some (.inr u))) h
    cases h'
    exact ⟨rfl, rfl⟩
  · rintro ⟨rfl, rfl⟩; rfl

/-- A receive cell is no barrier cell. -/
theorem recv_ne_bar (t : Tr) (a b : Dev nD) : recvCell t a ≠ barCell b := fun h => by have := congrArg Prod.snd h; cases this

/-- One signal's part of what is owed a barrier cell. -/
theorem sig_part (k : Fin 3) (d c : Dev nD) : (tallyAt (barCell (flip k d)) () 1 : CellTallies nD τ sig Unit) (barCell c) () = if d = flip k c then 1 else 0 := by
  rw [tallyAt_apply]
  by_cases h : d = flip k c
  · rw [if_pos h, if_pos ⟨bar_eq.mpr ((flip_iff k d c).mpr h).symm, rfl⟩]
  · rw [if_neg h, if_neg fun h' => h ((flip_iff k d c).mp (bar_eq.mp h'.1).symm)]

/-- What device `d` owes the barrier cell of `c` at launch: a unit for each axis over which they are neighbours. -/
theorem owed_bar (d c : Dev nD) :
    O₀ d (barCell c) () = (((if d = flip 2 c then 1 else 0) + (if d = flip 1 c then 1 else 0)) + (if d = flip 0 c then 1 else 0)) := by
  have h0 : obl [] d (barCell c) () = 0 := by
    by_contra h
    obtain ⟨t, -, ht⟩ := obl_pos (Nat.pos_of_ne_zero h)
    exact recv_ne_bar t _ c ht.symm
  unfold O₀
  simp only [Pi.add_apply, Finsupp.add_apply]
  rw [h0, sig_part, sig_part, sig_part, Nat.zero_add]

/-- What it owes a receive cell: the landing, if that transfer goes to `c`. -/
theorem owed_recv (t : Tr) (d c : Dev nD) : O₀ d (recvCell t c) () = if d = nbr t c then cr t else 0 := by
  unfold O₀
  simp only [Pi.add_apply, Finsupp.add_apply]
  rw [tallyAt_ne_cell (recv_ne_bar t c _), tallyAt_ne_cell (recv_ne_bar t c _), tallyAt_ne_cell (recv_ne_bar t c _)]
  simp only [Finsupp.zero_apply, Nat.add_zero]
  unfold obl
  rw [Finset.sum_apply, Finsupp.finset_sum_apply, Finset.sum_eq_single t]
  · rw [if_neg List.not_mem_nil, tallyAt_apply]
    by_cases h : d = nbr t c
    · rw [if_pos h, if_pos ⟨recv_eq.mpr ⟨rfl, ((flip_iff (dir t) d c).mpr h).symm⟩, rfl⟩]
    · rw [if_neg h, if_neg fun h' => h ((flip_iff (dir t) d c).mp (recv_eq.mp h'.1).2.symm)]
  · intro u _ hu
    rw [if_neg List.not_mem_nil, tallyAt_ne_cell fun h => hu (recv_eq.mp h).1.symm]
    rfl
  · intro h; exact absurd (Finset.mem_univ t) h

/-- All devices together owe a barrier cell three units, -/
theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

/-- and a receive cell its one landing. -/
theorem credit_recv (t : Tr) (c : Dev nD) :
    tallyOn (recvCell t c) (launchCredit (Pipeline.owing O₀) 0 (recvCell t c)) = (tallyAt (recvCell t c) () (cr t) : CellTallies nD τ sig Unit) := by
  unfold tallyAt; refine congrArg _ (Finsupp.ext fun u => ?_); cases u
  rw [Pipeline.launchCredit_owing, Finsupp.single_eq_same, Finset.sum_congr rfl fun d _ => owed_recv t d c]
  simp only [Finset.sum_ite_eq', Finset.mem_univ, if_true]

/-- The launch's credit holds what a device waits for. -/
theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map, by_cell]
  show iprop(cred (tallyOn (barCell c) (launchCredit (Pipeline.owing O₀) 0 (barCell c)))
      ∗ _ ∗ bigSep Finset.univ fun t : Tr => cred (tallyOn (recvCell t c) (launchCredit (Pipeline.owing O₀) 0 (recvCell t c)))) ⊢ _
  rw [credit_bar, bigSep_congr (s := Finset.univ) (fun (t : Tr) _ => congrArg cred (credit_recv t c))]
  exact sep_mono_right sep_elim_right

/-! ## The launch's side conditions -/

/-- What the launch hands a device is `start`. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Ha]; · iexact Ha
    iexists _; iexact Ho
  · iempintro

/-- With the buffer it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- What is read off at the end. -/
def Y (c : Dev nD) : sProp 𝕄 := iprop(unscopedSems0 c ∗ (oL c ↦{fullShare} W m c) ∗ (aL c ↦{fullShare.left} argAt m c))

/-- What the body leaves gives back the counters and the buffer, and `Y` to be read. -/
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  rw [unscopedSems0_eq]
  iintro ⟨HB, HS, HV, Hlo, Ho, Ha, Hb⟩
  isplitl [HB Ho Ha]
  · isplitl [HB]; · iexact HB
    isplitl [Ho] <;> iassumption
  isplitl [HS HV Hlo]
  · isplitl [HS HV]
    · isplitl [HS] <;> iassumption
    iexact Hlo
  iexact Hb

/-- A device's final contents. -/
def Fin₁ (c : Dev nD) (s : MemSt nD τ sig (Elt F)) : Prop :=
  (∀ sm : SemLoc sig, sm.isScoped .tc = false → s.sem ((c.tc : Thread nD τ), sm) = 0) ∧ s.mem (oL c) = W m c ∧ s.mem (aL c) = m (aL c)

/-- A buffer held at known contents has these contents in memory. -/
theorem read_one (ℓ : Loc nD τ sig) (f : Buf (Elt F) ℓ) (q : PosShare TreeShare) (s' : Phys nD τ sig (Elt F)) :
    iprop((ℓ ↦{q} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s' q
  rw [bigSep_singleton] at h
  refine BIBase.Entails.trans h ?_
  iintro ⟨%h, H⟩
  isplitr; · ipureintro; exact h () (Finset.mem_singleton_self _)
  iexact H

/-- `Y` gives the final contents in memory. -/
theorem read_out (c : Dev nD) (s' : Phys nD τ sig (Elt F)) :
    iprop(Y m c ∗ emp ∗ SI s') ⊢ |={Set.univ}=> (iprop(⌜Fin₁ m c s'.mem⌝ ∗ SI s') : sProp 𝕄) := by
  unfold Y Fin₁
  iintro ⟨⟨Hu, Ho, Ha⟩, -, HSI⟩
  ihave H1 := (read_one (oL c) (W m c) fullShare s') $$ [Ho HSI]
  · isplitl [Ho] <;> iassumption
  icases H1 with ⟨%h1, HSI⟩
  ihave H2 := (read_one (aL c) (argAt m c) fullShare.left s') $$ [Ha HSI]
  · isplitl [Ha] <;> iassumption
  icases H2 with ⟨%h2, HSI⟩
  imod (Pipeline.unscopedSems0_read (X := unscopedSems0 c) (c := c) fupd_intro s') $$ [Hu HSI] with H3
  · isplitl [Hu] <;> iassumption
  icases H3 with ⟨%h3, HSI⟩
  imodintro
  isplitr; · ipureintro; exact ⟨h3, h1, h2⟩
  iexact HSI

/-- No staged operand is waited for. -/
theorem waits (c : Dev nD) : (levAts L lv : sProp 𝕄) ⊢ Pipeline.cellsWaits cfgs (dats m) () 0 c :=
  Pipeline.cellsWaits_intro cfgs (dats m) () 0 c fun w _ _ => w.elim0

/-! ## The run -/

/-- The ghost state of the launch. -/
def u₀ : UU := (initOf (Pipeline.cells cfgs cellOf_inj) (Pipeline.launchToks cfgs cellOf_inj), (initOf allCells allToks, 1))

/-- It is cut into the region's part and the cells' part. -/
theorem ownU_cut (a : UR sig nD τ) (b : UB) :
    (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The launch's ghost state makes every device's share. -/
theorem fund₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_cut _ _) $$ Hu
  icases H with ⟨HP, HX⟩
  imod (fund_all m) $$ HX with HG
  imodintro
  isplitl [HP] <;> iassumption

set_option maxRecDepth 8000 in
/-- For any float values, from any memory with zero counters: every weakly fair execution of the mesh ends, with every device's
    result at `W`, its argument unchanged and every counter at zero. -/
theorem run_main : θ_run defs (onTc (τ := τ) (main (F := F))) ⟨m, fun _ => 0, ρ⟩
    (fun r => (∀ c : Dev nD, r.2.mem (oL c) = W m c ∧ r.2.mem (aL c) = m (aL c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund₀ m) (hglob := glob m)
    (hA := fun _ w => w.elim0) (hpf := fun _ k => k.elim0)
    (X := start m) (Y := Y m) (Z := fun _ => iprop(emp))
    (hX := start_intro m ρ) (hin := phi0_intro m) (hout := phi1_exit m)
    (QY := Fin₁ m) (hY := read_out m)
    (hQ := fun _ h hs => ⟨fun c => (h c).2.2.2, sem_eq_zero hs fun c => (h c).2.2.1⟩)

end Cert.Gather

end
-- ==== Proof.Values.lean ====
/-
What every device ends with, when the devices start with the two halves of one array: that array.
-/
module

public import proofs.«01_k».proof.Proof.Launch
public import Idealize.ShloMosaic.Lib.Layout

@[expose] public section

noncomputable section

namespace Cert.Gather

open Cert.KernelIdeal Cert.KernelIdeal.Gen
open Idealize.ShloMosaic Idealize.ShloMosaic.TcCoe

variable {F : FTy → Type} [FloatOps F]
variable (m : (ℓ : Loc nD τ sig) → Buf (Elt F) ℓ)

/-- Rows of the first half come from a device of x coordinate 0, rows of the second half from one of x coordinate 1. -/
theorem srcN_half : ∀ (c : Fin 8) (b : Fin 128), srcN c.val b.val / 4 = b.val / 64 := by decide +kernel

/-- The half that a device holds is named by its x coordinate. -/
theorem half_of : ∀ d : Fin 8, Layout.meshLin [2, 2, 2] d.val [0] = d.val / 4 := by decide

/-- Device `d`'s half of an array cut over the x axis: row `i` of it is row `16384 * (d / 4) + i` of the array. -/
theorem half_apply {α : Type} (d : Dev nD) (X : S32768x1024.Idx → α) (i : S16384x1024.Idx) (k : S32768x1024.Idx)
    (h0 : (k 0).val = d.val / 4 * 16384 + (i 0).val) (h1 : (k 1).val = (i 1).val) :
    (Layout.blockN ⟨2, ![16384, 1024]⟩ ⟨2, ![32768, 1024]⟩ (Layout.meshBlock [2, 2, 2] ![[0], []] d) X : S16384x1024.Idx → α) i = X k := by
  refine congrArg X (funext fun b => Fin.ext ?_)
  have hd := half_of d
  rw [Layout.TilesN.idx_val]
  revert b
  refine Fin.forall_fin_two.2 ⟨?_, ?_⟩
  · rw [h0]; show Layout.meshLin [2, 2, 2] d.val [0] * 16384 + (i 0).val = _; rw [hd]
  · rw [h1]; show 0 * 1024 + (i 1).val = _; omega

/-- Where the devices start with their halves of `X`, every device ends with the whole of `X`. -/
theorem W_whole (X : S32768x1024.Idx → Elt F .f32)
    (h : ∀ d : Dev nD, argAt m d = Layout.blockN ⟨2, ![16384, 1024]⟩ ⟨2, ![32768, 1024]⟩ (Layout.meshBlock [2, 2, 2] ![[0], []] d) X)
    (c : Dev nD) : W m c = X := by
  funext i
  show argAt m (srcDev c i) (srcIdx i) = X i
  rw [h]
  have hi : (i 0).val < 32768 := (i 0).isLt
  have hs : (srcDev c i).val / 4 = (i 0).val / 256 / 64 := srcN_half c ⟨(i 0).val / 256, by omega⟩
  refine half_apply _ X _ _ ?_ rfl
  show (i 0).val = (srcDev c i).val / 4 * 16384 + (i 0).val % 16384
  omega

end Cert.Gather

end
-- ==== Proof.Reference.lean ====
/-
The reference: a host program of no operations, which returns its argument's own buffer. Its run changes nothing.
-/
module

public import proofs.«01_k».proof.Proof.Gen.ReferenceIdeal
public import Idealize.ShloMosaic.Lib.StableHlo.Run
public import Idealize.ShloMosaic.Lib.Quiescent

@[expose] public section

noncomputable section

namespace Cert.Gather.Ref

open Cert.ReferenceIdeal
open Idealize.ShloMosaic Idealize.ShloMosaic.TcCoe Idealize.ShloMosaic.StableHlo Idealize.SL.Sem

variable {F : FTy → Type} [FloatOps F]

/-- The reference runs the empty line of host operations. -/
theorem main_nil (c : Dev nD) : main (F := F) c = seq [] := rfl

/-- From zero counters the reference terminates with its argument, which is its result too, as it was, and zero counters. -/
theorem run_main (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems rfl r.2⟩)
    (run_seq (by decide) (by decide) defs main (fun _ => []) main_nil (fun _ => trivial) m ρ)

end Cert.Gather.Ref

end
-- ==== Proof.lean ====
/-
The certificate of the all-gather over the x axis of a 2 × 2 × 2 mesh: both programs of the kernel run to the end, leave their
arguments unchanged and every counter at zero (Proof/Launch.lean, once for any float values), the reference does so too
(Proof/Reference.lean), and every device of the kernel ends with the whole array (Proof/Values.lean), the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import proofs.«01_k».proof.Proof.Reference
public import Idealize.ShloMosaic.Adequacy
public import Idealize.ShloMosaic.Init

@[expose] public section

noncomputable section

namespace Cert.Proof

open Idealize.ShloMosaic Idealize.SL.Sem

/-- The kernel over machine words: the run of Proof/Launch.lean with the values dropped. -/
theorem frame_kernel : Cert.quiescent_Kernel := fun m ρ _ =>
  (θ_run Cert.KernelIdeal.defs _ _).mono (fun _ h => ⟨fun c => (h.1 c).2, h.2⟩) (Cert.Gather.run_main (F := Bits) m ρ)

/-- The kernel over the extended reals: the same run. -/
theorem frame_kernelIdeal : Cert.quiescent_KernelIdeal := fun m ρ _ =>
  (θ_run Cert.KernelIdeal.defs _ _).mono (fun _ h => ⟨fun c => (h.1 c).2, h.2⟩) (Cert.Gather.run_main (F := Ideal) m ρ)

/-- The reference over the extended reals. -/
theorem frame_reference : Cert.quiescent_ReferenceIdeal := fun m ρ _ => Cert.Gather.Ref.run_main (F := Ideal) m ρ

/-- Where the devices start with their halves of the reference's argument, each ends with all of it, and so does the reference. -/
theorem values : Cert.algebraic_KernelIdeal_ReferenceIdeal := fun m g m' g' _ h =>
  ⟨_, (θ_run Cert.KernelIdeal.defs _ _).mono
      (fun _ hr c => ⟨(hr.1 c).1.trans (Cert.Gather.W_whole (F := Ideal) m _ h c), (hr.1 c).2⟩) (Cert.Gather.run_main (F := Ideal) m g),
    (θ_run Cert.ReferenceIdeal.defs _ _).mono (fun _ hr => ⟨hr.1 0, hr.1 0⟩) (Cert.Gather.Ref.run_main (F := Ideal) m' g')⟩

theorem claim : Cert.Claim :=
  ⟨Cert.Kernel.Gen.facts, Cert.KernelIdeal.Gen.facts, Cert.ReferenceIdeal.Gen.facts,
    frame_kernel, frame_kernelIdeal, frame_reference, trivial, values⟩

end Cert.Proof

end
